-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S512x4096 : Shape := ⟨2, ![512, 4096]⟩
abbrev S3x512x2048 : Shape := ⟨3, ![3, 512, 2048]⟩
abbrev S8x128 : Shape := ⟨2, ![8, 128]⟩
abbrev S3 : Shape := ⟨1, ![3]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S512x512 : Shape := ⟨2, ![512, 512]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S4096x512, .bf16⟩
  | .local _ .vmem, ⟨3, _⟩ => ⟨S512x4096, .bf16⟩
  | .local _ .vmem, ⟨4, _⟩ => ⟨S3x512x2048, .f32⟩
  | .local _ .vmem, ⟨5, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_48 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v53 : BitVec 32 := Scalar.addi v2 c1_i32_48
  let c8_i32_49 : BitVec 32 := 8#32
  let v54 : BitVec 32 := Scalar.remsi v53 c8_i32_49
  ![v54.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_51 : BitVec 32 := 512#32
  let v56 : BitVec 32 := Scalar.muli v2 c512_i32_51
  ![0, v56.toNat]
def k0_off4 (d0 : Dev nD) (c1_i32_48 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v53 : BitVec 32 := Scalar.addi v2 c1_i32_48
  let c8_i32_49 : BitVec 32 := 8#32
  let v54 : BitVec 32 := Scalar.remsi v53 c8_i32_49
  let c512_i32_50 : BitVec 32 := 512#32
  let v55 : BitVec 32 := Scalar.muli v54 c512_i32_50
  let c0_i32_55 : BitVec 32 := 0#32
  ![v55.toNat, 0]
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v53 : BitVec 32 := Scalar.addi v2 c1_i32_48
  let c8_i32_49 : BitVec 32 := 8#32
  let v54 : BitVec 32 := Scalar.remsi v53 c8_i32_49
  let c1_i32_52 : BitVec 32 := 1#32
  let v57 : BitVec 32 := Scalar.muli v54 c1_i32_52
  let v58 : BitVec 32 := Scalar.addi c0_i32_53 v57
  v58.toNat
def k0_dev9 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_56 : BitVec 32 := 2#32
  let v65 : BitVec 32 := Scalar.addi v2 c2_i32_56
  let c8_i32_57 : BitVec 32 := 8#32
  let v66 : BitVec 32 := Scalar.remsi v65 c8_i32_57
  let c1_i32_60 : BitVec 32 := 1#32
  let v69 : BitVec 32 := Scalar.muli v66 c1_i32_60
  let v70 : BitVec 32 := Scalar.addi c0_i32_61 v69
  v70.toNat
def k0_dev10 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v77 : BitVec 32 := Scalar.addi v2 c3_i32_64
  let c8_i32_65 : BitVec 32 := 8#32
  let v78 : BitVec 32 := Scalar.remsi v77 c8_i32_65
  let c1_i32_68 : BitVec 32 := 1#32
  let v81 : BitVec 32 := Scalar.muli v78 c1_i32_68
  let v82 : BitVec 32 := Scalar.addi c0_i32_69 v81
  v82.toNat
def k0_dev11 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v89 : BitVec 32 := Scalar.addi v2 c4_i32_72
  let c8_i32_73 : BitVec 32 := 8#32
  let v90 : BitVec 32 := Scalar.remsi v89 c8_i32_73
  let c1_i32_76 : BitVec 32 := 1#32
  let v93 : BitVec 32 := Scalar.muli v90 c1_i32_76
  let v94 : BitVec 32 := Scalar.addi c0_i32_77 v93
  v94.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_80 : BitVec 32 := 5#32
  let v101 : BitVec 32 := Scalar.addi v2 c5_i32_80
  let c8_i32_81 : BitVec 32 := 8#32
  let v102 : BitVec 32 := Scalar.remsi v101 c8_i32_81
  let c1_i32_84 : BitVec 32 := 1#32
  let v105 : BitVec 32 := Scalar.muli v102 c1_i32_84
  let v106 : BitVec 32 := Scalar.addi c0_i32_85 v105
  v106.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_88 : BitVec 32 := 6#32
  let v113 : BitVec 32 := Scalar.addi v2 c6_i32_88
  let c8_i32_89 : BitVec 32 := 8#32
  let v114 : BitVec 32 := Scalar.remsi v113 c8_i32_89
  let c1_i32_92 : BitVec 32 := 1#32
  let v117 : BitVec 32 := Scalar.muli v114 c1_i32_92
  let v118 : BitVec 32 := Scalar.addi c0_i32_93 v117
  v118.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_96 : BitVec 32 := 7#32
  let v125 : BitVec 32 := Scalar.addi v2 c7_i32_96
  let c8_i32_97 : BitVec 32 := 8#32
  let v126 : BitVec 32 := Scalar.remsi v125 c8_i32_97
  let c1_i32_100 : BitVec 32 := 1#32
  let v129 : BitVec 32 := Scalar.muli v126 c1_i32_100
  let v130 : BitVec 32 := Scalar.addi c0_i32_101 v129
  v130.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_104 : BitVec 32 := 512#32
  let v137 : BitVec 32 := Scalar.muli v2 c512_i32_104
  let v138 : Index := Scalar.indexCast v137
  let c0_105 : Index := 0#32
  ![v138.toNat, 0]
def k0_off6 (d0 : Dev nD) : Fin 2 → Nat :=
  let c0_107 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_106 : BitVec 32 := 512#32
  let v140 : BitVec 32 := Scalar.muli v2 c512_i32_106
  let v141 : Index := Scalar.indexCast v140
  ![0, v141.toNat]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v311 : Index := Scalar.indexCast v2
  let c0_268 : Index := 0#32
  ![v311.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_273 : BitVec 32 := 0#32
  ![v2.toNat, 0]
def k0_dev15 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_269 : BitVec 32 := 1#32
  let v315 : BitVec 32 := Scalar.addi v2 c1_i32_269
  let c8_i32_270 : BitVec 32 := 8#32
  let v316 : BitVec 32 := Scalar.remsi v315 c8_i32_270
  let c1_i32_271 : BitVec 32 := 1#32
  let v317 : BitVec 32 := Scalar.muli v316 c1_i32_271
  let v318 : BitVec 32 := Scalar.addi c0_i32_272 v317
  v318.toNat
def k0_dev16 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_275 : BitVec 32 := 2#32
  let v325 : BitVec 32 := Scalar.addi v2 c2_i32_275
  let c8_i32_276 : BitVec 32 := 8#32
  let v326 : BitVec 32 := Scalar.remsi v325 c8_i32_276
  let c1_i32_277 : BitVec 32 := 1#32
  let v327 : BitVec 32 := Scalar.muli v326 c1_i32_277
  let v328 : BitVec 32 := Scalar.addi c0_i32_278 v327
  v328.toNat
def k0_dev17 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_281 : BitVec 32 := 3#32
  let v335 : BitVec 32 := Scalar.addi v2 c3_i32_281
  let c8_i32_282 : BitVec 32 := 8#32
  let v336 : BitVec 32 := Scalar.remsi v335 c8_i32_282
  let c1_i32_283 : BitVec 32 := 1#32
  let v337 : BitVec 32 := Scalar.muli v336 c1_i32_283
  let v338 : BitVec 32 := Scalar.addi c0_i32_284 v337
  v338.toNat
def k0_dev18 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_287 : BitVec 32 := 4#32
  let v345 : BitVec 32 := Scalar.addi v2 c4_i32_287
  let c8_i32_288 : BitVec 32 := 8#32
  let v346 : BitVec 32 := Scalar.remsi v345 c8_i32_288
  let c1_i32_289 : BitVec 32 := 1#32
  let v347 : BitVec 32 := Scalar.muli v346 c1_i32_289
  let v348 : BitVec 32 := Scalar.addi c0_i32_290 v347
  v348.toNat
def k0_dev19 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_293 : BitVec 32 := 5#32
  let v355 : BitVec 32 := Scalar.addi v2 c5_i32_293
  let c8_i32_294 : BitVec 32 := 8#32
  let v356 : BitVec 32 := Scalar.remsi v355 c8_i32_294
  let c1_i32_295 : BitVec 32 := 1#32
  let v357 : BitVec 32 := Scalar.muli v356 c1_i32_295
  let v358 : BitVec 32 := Scalar.addi c0_i32_296 v357
  v358.toNat
def k0_dev20 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_299 : BitVec 32 := 6#32
  let v365 : BitVec 32 := Scalar.addi v2 c6_i32_299
  let c8_i32_300 : BitVec 32 := 8#32
  let v366 : BitVec 32 := Scalar.remsi v365 c8_i32_300
  let c1_i32_301 : BitVec 32 := 1#32
  let v367 : BitVec 32 := Scalar.muli v366 c1_i32_301
  let v368 : BitVec 32 := Scalar.addi c0_i32_302 v367
  v368.toNat
def k0_dev21 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_305 : BitVec 32 := 7#32
  let v375 : BitVec 32 := Scalar.addi v2 c7_i32_305
  let c8_i32_306 : BitVec 32 := 8#32
  let v376 : BitVec 32 := Scalar.remsi v375 c8_i32_306
  let c1_i32_307 : BitVec 32 := 1#32
  let v377 : BitVec 32 := Scalar.muli v376 c1_i32_307
  let v378 : BitVec 32 := Scalar.addi c0_i32_308 v377
  v378.toNat
def k0_off9 (d0 : Dev nD) (c1_i32_312 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_311 : BitVec 32 := 8#32
  let v385 : BitVec 32 := Scalar.addi v2 c8_i32_311
  let v386 : BitVec 32 := Scalar.subi v385 c1_i32_312
  let c8_i32_313 : BitVec 32 := 8#32
  let v387 : BitVec 32 := Scalar.remsi v386 c8_i32_313
  ![v387.toNat]
def k0_off10 (d0 : Dev nD) (c1_i32_312 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_311 : BitVec 32 := 8#32
  let v385 : BitVec 32 := Scalar.addi v2 c8_i32_311
  let v386 : BitVec 32 := Scalar.subi v385 c1_i32_312
  let c8_i32_313 : BitVec 32 := 8#32
  let v387 : BitVec 32 := Scalar.remsi v386 c8_i32_313
  let c0_i32_316 : BitVec 32 := 0#32
  ![v387.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Protocol.lean ====
/- The protocol of the kernel's run, written down once for a symbolic device: its semaphore cells, what every landing
   hands over, what each device owes at launch, and the levels its waits are ordered by. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

/-! ## The resource algebra: the pipeline's copy and the protocol's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

/-- The device `r` places after `c` around the eight. -/
def nx (c : Dev nD) (r : ℕ) : Dev nD := ⟨(c.val + r) % 8, Nat.mod_lt _ (by decide)⟩

/-- Rotation by `c`: place `r` to the device `r` places after `c`. -/
def rot (c : Dev nD) : Fin 8 ≃ Dev nD where
  toFun r := nx c r.val
  invFun d := ⟨(d.val + (8 - c.val)) % 8, Nat.mod_lt _ (by decide)⟩
  left_inv := by revert c; decide
  right_inv := by revert c; decide

/-- Rotation the other way: place `r` to the device `r` places before `c`. -/
def tor (c : Dev nD) : Fin 8 ≃ Dev nD where
  toFun r := ⟨(c.val + (8 - r.val)) % 8, Nat.mod_lt _ (by decide)⟩
  invFun d := ⟨(c.val + (8 - d.val)) % 8, Nat.mod_lt _ (by decide)⟩
  left_inv := by revert c; decide
  right_inv := by revert c; decide

/-! ## The cells -/

/-- The semaphores by use: the runtime's barrier, the weight slots' (`w`), the data sends' and arrivals' (`snd`, `rcv`),
    the maxima's sends' and arrivals' (`asd`, `arc`); `none` is any other. -/
inductive Knd : Type
  | none | bar | w (s : Fin 3) | snd (t : Fin 8) | rcv (j : Fin 8) | asd (t : Fin 8) | arc (j : Fin 8)
  deriving DecidableEq

/-- The 36 semaphores of the protocol in order: the barrier, then the scratch semaphores. -/
def csem (k : Fin 36) : SemLoc sig :=
  if k.val = 0 then .reg barrier0 else .dma (⟨k.val + 1, by have := k.isLt; omega⟩ : Fin 37)

/-- The kernel's own 35 scratch semaphores. -/
def osem (k : Fin 35) : SemLoc sig := .dma (⟨k.val + 2, by have := k.isLt; omega⟩ : Fin 37)

/-- Where a use sits in that order. -/
def idx : Knd → Fin 36
  | .none => 0 | .bar => 0
  | .w s => ⟨1 + s.val, by omega⟩
  | .snd t => ⟨4 + t.val, by omega⟩
  | .rcv t => ⟨12 + t.val, by omega⟩
  | .asd t => ⟨20 + t.val, by omega⟩
  | .arc t => ⟨28 + t.val, by omega⟩

/-- The use of a semaphore. -/
def kd : SemLoc sig → Knd
  | .reg _ => .bar
  | .dma q =>
    if h0 : q.val < 2 then .none
    else if h1 : q.val < 5 then .w ⟨q.val - 2, by omega⟩
    else if h2 : q.val < 13 then .snd ⟨q.val - 5, by omega⟩
    else if h3 : q.val < 21 then .rcv ⟨q.val - 13, by omega⟩
    else if h4 : q.val < 29 then .asd ⟨q.val - 21, by omega⟩
    else .arc ⟨q.val - 29, by have h5 : q.val < 37 := q.isLt; omega⟩

/-- Device `c`'s cell of a use. -/
abbrev cell (c : Dev nD) (k : Knd) : GSem nD τ sig := ((c : Thread nD τ), csem (idx k))

theorem kd_bar : kd (csem (idx .bar)) = .bar := rfl
theorem kd_w (s : Fin 3) : kd (csem (idx (.w s))) = .w s := by revert s; decide
theorem kd_snd (s : Fin 8) : kd (csem (idx (.snd s))) = .snd s := by revert s; decide
theorem kd_rcv (s : Fin 8) : kd (csem (idx (.rcv s))) = .rcv s := by revert s; decide
theorem kd_asd (s : Fin 8) : kd (csem (idx (.asd s))) = .asd s := by revert s; decide
theorem kd_arc (s : Fin 8) : kd (csem (idx (.arc s))) = .arc s := by revert s; decide

/-- The cells in the order of the launch. -/
abbrev kcell (ck : Dev nD × Fin 36) : GSem nD τ sig := ((ck.1 : Thread nD τ), csem ck.2)

/-! ## Amounts -/

/-- What a data block's transfer credits: 512 × 512 of bfloat16; -/
def N1 : ℕ := ((Memref.whole cc0_scratch1).slice (Rect.unit (s := S512x4096) ![0, 0] S512x512.size inb_S512x4096_S512x512_0_0) (fun _ => rfl)).view.dmaCredit
/-- a row of maxima's: 1 × 128 of float32; -/
def N2 : ℕ := ((Memref.whole cc0_scratch3).slice (Rect.unit (s := S8x128) ![0, 0] S1x128.size (by decide)) (fun _ => rfl)).view.dmaCredit
/-- a weight block's: 512 × 2048 of float32. -/
def N3 : ℕ := ((Memref.whole main_arg1).slice (Rect.unit (s := S4096x2048) ![0, 0] S512x2048.size inb_S4096x2048_S512x2048_0_0) (fun _ => rfl)).view.dmaCredit

theorem N1_pos : 0 < N1 := View.dmaCredit_pos _ (by decide)
theorem N2_pos : 0 < N2 := View.dmaCredit_pos _ (by decide)
theorem N3_pos : 0 < N3 := View.dmaCredit_pos _ (by decide)

/-! ## Pieces of the buffers -/

theorem colInb (j : Fin 8) : ∀ a, (![0, 512 * j.val] : Fin 2 → ℕ) a + S512x512.size a ≤ S512x4096.size a :=
  Rect.inb₂ (Nat.le_of_eq rfl) (show 512 * j.val + 512 ≤ 4096 by omega)
theorem rowInb (j : Fin 8) : ∀ a, (![512 * j.val, 0] : Fin 2 → ℕ) a + S512x512.size a ≤ S4096x512.size a :=
  Rect.inb₂ (show 512 * j.val + 512 ≤ 4096 by omega) (Nat.le_of_eq rfl)
theorem wrowInb (j : Fin 8) : ∀ a, (![512 * j.val, 0] : Fin 2 → ℕ) a + S512x2048.size a ≤ S4096x2048.size a :=
  Rect.inb₂ (show 512 * j.val + 512 ≤ 4096 by omega) (Nat.le_of_eq rfl)
theorem amInb (j : Fin 8) : ∀ a, (![j.val, 0] : Fin 2 → ℕ) a + S1x128.size a ≤ S8x128.size a :=
  Rect.inb₂ (show j.val + 1 ≤ 8 by omega) (Nat.le_of_eq rfl)
theorem slotInb (s : Fin 3) : ∀ a, (![s.val, 0, 0] : Fin 3 → ℕ) a + S1x512x2048.size a ≤ S3x512x2048.size a := by
  revert s; decide

/-- Column block `j` of the gathered rows, row block `j` of the rounded array, row block `j` of the weights, row `j` of
    the maxima, slot `s` of the weight buffer. -/
abbrev colR (j : Fin 8) : Rect S512x4096 := Rect.unit (s := S512x4096) ![0, 512 * j.val] S512x512.size (colInb j)
abbrev rowR (j : Fin 8) : Rect S4096x512 := Rect.unit (s := S4096x512) ![512 * j.val, 0] S512x512.size (rowInb j)
abbrev wrowR (j : Fin 8) : Rect S4096x2048 := Rect.unit (s := S4096x2048) ![512 * j.val, 0] S512x2048.size (wrowInb j)
abbrev amR (j : Fin 8) : Rect S8x128 := Rect.unit (s := S8x128) ![j.val, 0] S1x128.size (amInb j)
abbrev slotR (s : Fin 3) : Rect S3x512x2048 := Rect.unit (s := S3x512x2048) ![s.val, 0, 0] S1x512x2048.size (slotInb s)

/-! ## Contents -/

/-- Device `c`'s block of the left array, as it is staged. -/
def xstg (c : Dev nD) : (cc0_stg0_0 : Ref sig .tc).ty.Contents (Elt F) :=
  (win0_0.blk (0 : Fin 1)).view.read (Elt F) ((s₀ m ρ).mem ((c : Thread nD τ).loc main_arg0))

/-- The weights on device `c`. -/
def wv (c : Dev nD) : (main_arg1 : Ref sig .tc).ty.Contents (Elt F) := m ((c : Thread nD τ).loc main_arg1)

/-- Device `c`'s block rounded to bfloat16. -/
def xb (c : Dev nD) : (cc0_scratch0 : Ref sig .tc).ty.Contents (Elt F) := k0_pay2 (k0_pay1 (xstg m ρ c))

/-- The gathered rows on device `c`: column block `j` is row block `c` of device `j`'s rounded array. -/
def xg (c : Dev nD) : (cc0_scratch1 : Ref sig .tc).ty.Contents (Elt F) := fun i : S512x4096.Idx =>
  xb m ρ (⟨(i 1).val / 512, by have h : (i 1).val < 4096 := (i 1).isLt; show (i 1).val / 512 < 8; omega⟩ : Dev nD)
    (ix2 (⟨512 * c.val + (i 0).val, by have h : (i 0).val < 512 := (i 0).isLt; have hc : c.val < 8 := c.isLt; omega⟩ : Fin 4096)
      (⟨(i 1).val % 512, Nat.mod_lt _ (by decide)⟩ : Fin 512))

/-- The weight buffer holding row block `j` in every slot. -/
def ws (c : Dev nD) (j : Fin 8) : (cc0_scratch2 : Ref sig .tc).ty.Contents (Elt F) := fun i : S3x512x2048.Idx =>
  wv m c (ix2 (⟨512 * j.val + (i 1).val, by have h : (i 1).val < 512 := (i 1).isLt; omega⟩ : Fin 4096) (⟨(i 2).val, (i 2).isLt⟩ : Fin 2048))

/-- Column block `j` of the gathered rows, as it is loaded. -/
def xr (c : Dev nD) (j : Fin 8) : Vec F S512x512 .bf16 := fun a =>
  xb m ρ (j : Dev nD) (ix2 (⟨512 * c.val + (a 0).val, by have h : (a 0).val < 512 := (a 0).isLt; have hc : c.val < 8 := c.isLt; omega⟩ : Fin 4096)
      (⟨(a 1).val, (a 1).isLt⟩ : Fin 512))

/-- Row block `j` of the weights, as it is loaded from a slot. -/
def wr (c : Dev nD) (j : Fin 8) : Vec F S1x512x2048 .f32 := fun a =>
  wv m c (ix2 (⟨512 * j.val + (a 1).val, by have h : (a 1).val < 512 := (a 1).isLt; omega⟩ : Fin 4096) (⟨(a 2).val, (a 2).isLt⟩ : Fin 2048))

/-- The running sum after column block 0, 1, … 7: the kernel's own payloads in its own order. -/
def acc0 (c : Dev nD) : FVec F S512x2048 .f32 := k0_pay4 (xr m ρ c 0) (wr m c 0)
def acc1 (c : Dev nD) : FVec F S512x2048 .f32 := k0_pay7 (k0_pay5 (xr m ρ c 1)) (k0_pay6 (wr m c 1)) (constant S512x2048 .f32 0x00000000#32) (acc0 m ρ c)
def acc2 (c : Dev nD) : FVec F S512x2048 .f32 := k0_pay9 (k0_pay8 (xr m ρ c 2) (wr m c 2)) (acc1 m ρ c)
def acc3 (c : Dev nD) : FVec F S512x2048 .f32 := k0_pay10 (xr m ρ c 3) (wr m c 3) (acc2 m ρ c)
def acc4 (c : Dev nD) : FVec F S512x2048 .f32 := k0_pay11 (xr m ρ c 4) (wr m c 4) (acc3 m ρ c)
def acc5 (c : Dev nD) : FVec F S512x2048 .f32 := k0_pay12 (xr m ρ c 5) (wr m c 5) (acc4 m ρ c)
def acc6 (c : Dev nD) : FVec F S512x2048 .f32 := k0_pay14 (k0_pay13 (xr m ρ c 6) (wr m c 6)) (acc5 m ρ c)
def acc7 (c : Dev nD) : FVec F S512x2048 .f32 := k0_pay15 (xr m ρ c 7) (wr m c 7) (acc6 m ρ c)

/-- The row of maxima device `c` stores and sends. -/
def amrow (c : Dev nD) : Vec F S1x128 .f32 := k0_pay18 (k0_pay17 (acc7 m ρ c))

/-- All eight rows of maxima: the same on every device. -/
def am : (cc0_scratch3 : Ref sig .tc).ty.Contents (Elt F) := fun i : S8x128.Idx =>
  amrow m ρ (⟨(i 0).val, (i 0).isLt⟩ : Dev nD) (ix2 (0 : Fin 1) (⟨(i 1).val, (i 1).isLt⟩ : Fin 128))

/-- The kernel's result on device `c`. -/
def outAt (c : Dev nD) : (cc0_stg1_0 : Ref sig .tc).ty.Contents (Elt F) := k0_pay19 (k0_pay16 (acc7 m ρ c)) (am m ρ)

/-! ## The assertions the landings hand over -/

/-- Shares of the row of maxima a device sends seven times: the part still held after `n` sends, and the part lent to
    the next. -/
def keep : ℕ → PosShare TreeShare
  | 0 => fullShare
  | n + 1 => (keep n).right
def lend (n : ℕ) : PosShare TreeShare := (keep n).left

def xcol (c : Dev nD) (j : Fin 8) (f : (cc0_scratch1 : Ref sig .tc).ty.Contents (Elt F)) : sProp 𝕄 :=
  ((c : Thread nD τ).loc cc0_scratch1) ↦[(colR j).set]{fullShare} f
def xrow (c : Dev nD) (t : Fin 8) (f : (cc0_scratch0 : Ref sig .tc).ty.Contents (Elt F)) : sProp 𝕄 :=
  ((c : Thread nD τ).loc cc0_scratch0) ↦[(rowR t).set]{fullShare} f
def wsl (c : Dev nD) (s : Fin 3) (f : (cc0_scratch2 : Ref sig .tc).ty.Contents (Elt F)) : sProp 𝕄 :=
  ((c : Thread nD τ).loc cc0_scratch2) ↦[(slotR s).set]{fullShare} f
def wrow (c : Dev nD) (j : Fin 8) : sProp 𝕄 :=
  ((c : Thread nD τ).loc main_arg1) ↦[(wrowR j).set]{fullShare} wv m c
def amr (c : Dev nD) (j : Fin 8) (q : PosShare TreeShare) (f : (cc0_scratch3 : Ref sig .tc).ty.Contents (Elt F)) : sProp 𝕄 :=
  ((c : Thread nD τ).loc cc0_scratch3) ↦[(amR j).set]{q} f

omit [FloatOps F] in
instance (c : Dev nD) (j f) : BI.Storable (upEmb : UEmb _ 𝕄) (xcol (F := F) c j f) := by unfold xcol; infer_instance
omit [FloatOps F] in
instance (c : Dev nD) (j f) : BI.Storable (upEmb : UEmb _ 𝕄) (xrow (F := F) c j f) := by unfold xrow; infer_instance
omit [FloatOps F] in
instance (c : Dev nD) (j f) : BI.Storable (upEmb : UEmb _ 𝕄) (wsl (F := F) c j f) := by unfold wsl; infer_instance
omit [FloatOps F] in
instance (c : Dev nD) (j) : BI.Storable (upEmb : UEmb _ 𝕄) (wrow (F := F) m c j) := by unfold wrow; infer_instance
omit [FloatOps F] in
instance (c : Dev nD) (j q f) : BI.Storable (upEmb : UEmb _ 𝕄) (amr (F := F) c j q f) := by unfold amr; infer_instance

/-- What device `d`'s signal hands `c`: column block `c` of `d`'s gathered rows and row `c` of `d`'s maxima, both free. -/
def barPay (c d : Dev nD) : sProp 𝕄 := iprop((∃ f, xcol d c f) ∗ ∃ f, amr d c fullShare f)
/-- What a weight copy's landing hands: the slot holding row block `j`, and the lent rows of the weights back. -/
def wPay (c : Dev nD) (s : Fin 3) (j : Fin 8) : sProp 𝕄 := iprop(wsl c s (ws m c j) ∗ wrow m c j)

/-- The copy of round `r` on slot `s`: row block `3 r + s`. -/
def wj (s : Fin 3) (r : ℕ) : Fin 8 := ⟨(3 * r + s.val) % 8, Nat.mod_lt _ (by decide)⟩

/-! ## The schedule -/

/-- Who pays round `r` of device `c`'s cell of use `k`. -/
def duty (c : Dev nD) (k : Knd) (r : ℕ) : Finset (Dev nD) :=
  match k with
  | .none => ∅
  | .bar => if r = 0 then Finset.univ.erase c else ∅
  | .w s => if 3 * r + s.val < 8 then {c} else ∅
  | .snd t => if r = 0 ∧ t ≠ c then {c} else ∅
  | .rcv j => if r = 0 ∧ j ≠ c then {j} else ∅
  | .asd t => if r = 0 ∧ t ≠ c then {c} else ∅
  | .arc j => if r = 0 ∧ j ≠ c then {j} else ∅

/-- Units per payment. -/
def amt : Knd → ℕ
  | .none => 1 | .bar => 1 | .w _ => N3 | .snd _ => N1 | .rcv _ => N1 | .asd _ => N2 | .arc _ => N2

theorem amt_pos (k : Knd) : 0 < amt k := by
  cases k <;> first | exact Nat.one_pos | exact N1_pos | exact N2_pos | exact N3_pos

/-- What a payment hands the owner. -/
def pay (c : Dev nD) (k : Knd) (r : ℕ) (d : Dev nD) : sProp 𝕄 :=
  match k with
  | .none => iprop(emp)
  | .bar => barPay c d
  | .w s => wPay m c s (wj s r)
  | .snd t => xrow c t (xb m ρ c)
  | .rcv j => xcol c j (xg m ρ c)
  | .asd t => amr c c (lend ((t - c).val - 1)) (am m ρ)
  | .arc j => amr c j fullShare (am m ρ)

def Rd : Rounds.Schedule (GSem nD τ sig) (Dev nD) 𝕄 where
  duties g r := duty g.1.1 (kd g.2) r
  unitless _ := False
  amount g _ _ := amt (kd g.2)
  payload g r d := pay m ρ g.1.1 (kd g.2) r d
  amount_pos g _ _ _ := amt_pos _

instance Rd_payload_storable (g : GSem nD τ sig) (r : ℕ) (d : Dev nD) :
    BI.Storable (upEmb : UEmb _ 𝕄) ((Rd (F := F) m ρ).payload g r d) := by
  show BI.Storable upEmb (pay m ρ g.1.1 (kd g.2) r d)
  unfold pay barPay wPay
  split <;> infer_instance

/-- A use read back from its cell. -/
theorem kd_cell (k : Knd) (hk : k ≠ .none) : kd (csem (idx k)) = k := by
  cases k with
  | none => exact absurd rfl hk
  | bar => rfl
  | w s => exact kd_w s
  | snd s => exact kd_snd s
  | rcv s => exact kd_rcv s
  | asd s => exact kd_asd s
  | arc s => exact kd_arc s

section Sched
variable (c : Dev nD) {k : Knd} (hk : k ≠ .none)
include hk

theorem duties_cell (r : ℕ) : (Rd (F := F) m ρ).duties (cell c k) r = duty c k r := by
  show duty c (kd (csem (idx k))) r = _; rw [kd_cell k hk]
theorem amount_cell (r : ℕ) (d : Dev nD) : (Rd (F := F) m ρ).amount (cell c k) r d = amt k := by
  show amt (kd (csem (idx k))) = _; rw [kd_cell k hk]
theorem payload_cell (r : ℕ) (d : Dev nD) : (Rd (F := F) m ρ).payload (cell c k) r d = pay m ρ c k r d := by
  show pay m ρ c (kd (csem (idx k))) r d = _; rw [kd_cell k hk]
theorem expect_cell (r : ℕ) : (Rd (F := F) m ρ).expect (cell c k) r = (duty c k r).card * amt k := by
  unfold Schedule.expect Schedule.amountOf
  rw [duties_cell m ρ c hk, Finset.sum_congr rfl fun d _ => amount_cell m ρ c hk r d, Finset.sum_const, smul_eq_mul]
/-- The payloads of a round paid by one device: that payment's. -/
theorem rest_one (r : ℕ) (d : Dev nD) (hd : duty c k r = {d}) :
    bigSep ((Rd (F := F) m ρ).duties (cell c k) r \ ∅) (fun e => (Rd (F := F) m ρ).payload (cell c k) r e) = pay m ρ c k r d := by
  rw [Finset.sdiff_empty, duties_cell m ρ c hk, hd, bigSep_singleton, payload_cell m ρ c hk]
end Sched

theorem card_bar (c : Dev nD) : (duty c .bar 0).card = 7 := by revert c; decide

/-! ## What each device owes at launch -/

/-- The payments to other devices' cells that device `c` owes, LAST first: the maxima's rows, the data blocks, the
    barrier signals. -/
def oweK (c : Dev nD) (i : ℕ) : Knd := if i < 7 then .arc c else if i < 14 then .rcv c else .bar
def oweD (c : Dev nD) (i : ℕ) : Dev nD := nx c (if i < 7 then 7 - i else if i < 14 then 14 - i else 21 - i)

/-- What device `c` still owes when `n` payments are left. -/
def ow (c : Dev nD) : ℕ → CellTallies nD τ sig Unit
  | 0 => 0
  | n + 1 => ow c n + tallyAt (cell (oweD c n) (oweK c n)) () (amt (oweK c n))

abbrev O₀ (c : Dev nD) : CellTallies nD τ sig Unit := ow c 21

theorem ow_pos {c : Dev nD} {g : GSem nD τ sig} {u : Unit} : ∀ {n : ℕ}, 0 < ow c n g u →
    ∃ i < n, g = cell (oweD c i) (oweK c i)
  | 0, h => absurd h (Nat.lt_irrefl 0)
  | n + 1, h => by
    by_cases hg : g = cell (oweD c n) (oweK c n) ∧ u = ()
    · exact ⟨n, Nat.lt_succ_self n, hg.1⟩
    · have h' : 0 < ow c n g u := by
        have e : ow c (n + 1) g u = ow c n g u := by
          show (ow c n + tallyAt (cell (oweD c n) (oweK c n)) () (amt (oweK c n))) g u = _
          rw [Pi.add_apply, Finsupp.add_apply, tallyAt_apply, if_neg hg, Nat.add_zero]
        rwa [e] at h
      obtain ⟨i, hi, e⟩ := ow_pos h'
      exact ⟨i, Nat.lt_succ_of_lt hi, e⟩

/-! ## Levels -/

def L (g : GSem nD τ sig) : Finset Unit := if g.1.2 = .tc then {()} else ∅
/-- Barrier below data arrivals below maxima arrivals; everything else at the bottom. -/
def lvK : Knd → ℕ
  | .bar => 1 | .rcv _ => 2 | .arc _ => 3 | _ => 0
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

theorem oweK_ne (c : Dev nD) (i : ℕ) : oweK c i ≠ .none := by unfold oweK; split <;> [skip; split] <;> exact fun h => by cases h

/-- A device waits on a cell below everything it still owes. -/
theorem mayWait (c : Dev nD) (sm : SemLoc sig) (n : ℕ) (h : ∀ i < n, lvK (kd sm) < lvK (oweK c i)) :
    (levAts L lv : sProp 𝕄) ⊢ MayWait (c : Thread nD τ) sm () (ow c n) :=
  MayOwe.of_cut (L := L) (lev := lv) (lvK (kd sm)) (fun p hp => by rw [Finset.mem_singleton.mp hp, L_tc]; exact Finset.mem_singleton_self _)
    (fun g u hg => by obtain ⟨i, _, rfl⟩ := ow_pos hg; rw [L_tc]; exact Finset.mem_singleton_self _)
    (fun p hp => by rw [Finset.mem_singleton.mp hp]; exact le_rfl)
    (fun g u hg => by
      obtain ⟨i, hi, rfl⟩ := ow_pos hg
      show _ < lvK (kd (csem (idx (oweK c i))))
      rw [kd_cell _ (oweK_ne c i)]; exact h i hi)

end Cert.Run

end
-- ==== Proof.Steps.lean ====
/- One rule per kind of step of the kernel, stated once for every device, place and slot: what the step takes and what
   it leaves. -/
module

public import proofs.«01_k».proof.Proof.Protocol
public import Idealize.ShloMosaic.Lib.ValueLayout

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Which semaphore a slice of a scratch array names -/

/-- The number of the semaphore a one-element slice of a scratch array names: the array's first plus the offset. -/
theorem sem_val {d : Fin 1 → ℕ} (base : ℕ) (hb : base + (⟨1, d⟩ : Shape).numel ≤ 37) (j : ℕ) {o : Fin 1 → ℕ} (ho : o = ![j]) {inb h} :
    (((SemArray.consecutive (n := 37) base ⟨1, d⟩ hb).slice (Rect.unit (s := ⟨1, d⟩) o S1.size inb)).squeeze S_ h).sem.val = base + j := by
  subst ho
  show base + ((⟨1, d⟩ : Shape).rowMajor ((Rect.unit (s := ⟨1, d⟩) ![j] S1.size inb).emb _)).val = base + j
  generalize Shape.reshapeEquiv _ _ = x
  rw [Shape.rowMajor_val_one]
  have hx : (x 0).val < 1 := (x 0).isLt
  have e : ((Rect.unit (s := ⟨1, d⟩) ![j] S1.size inb).emb x 0).val = j + 1 * (x 0).val := rfl
  omega

theorem csem_pos (k : Fin 36) (hk : k.val ≠ 0) : csem k = .dma (⟨k.val + 1, by have := k.isLt; omega⟩ : Fin 37) := if_neg hk

theorem sem_rcv (j : Fin 8) {o : Fin 1 → ℕ} (ho : o = ![j.val]) {inb h} :
    SemLoc.dma ((cc0_scratch6.slice (Rect.unit (s := S8) o S1.size inb)).squeeze S_ h).sem = csem (idx (.rcv j)) := by
  rw [csem_pos _ (by show 12 + j.val ≠ 0; omega)]
  exact congrArg SemLoc.dma (Fin.ext ((sem_val 13 _ j.val ho).trans (by show _ = 12 + j.val + 1; omega)))
theorem sem_snd (j : Fin 8) {o : Fin 1 → ℕ} (ho : o = ![j.val]) {inb h} :
    SemLoc.dma ((cc0_scratch5.slice (Rect.unit (s := S8) o S1.size inb)).squeeze S_ h).sem = csem (idx (.snd j)) := by
  rw [csem_pos _ (by show 4 + j.val ≠ 0; omega)]
  exact congrArg SemLoc.dma (Fin.ext ((sem_val 5 _ j.val ho).trans (by show _ = 4 + j.val + 1; omega)))
theorem sem_asd (j : Fin 8) {o : Fin 1 → ℕ} (ho : o = ![j.val]) {inb h} :
    SemLoc.dma ((cc0_scratch7.slice (Rect.unit (s := S8) o S1.size inb)).squeeze S_ h).sem = csem (idx (.asd j)) := by
  rw [csem_pos _ (by show 20 + j.val ≠ 0; omega)]
  exact congrArg SemLoc.dma (Fin.ext ((sem_val 21 _ j.val ho).trans (by show _ = 20 + j.val + 1; omega)))
theorem sem_arc (j : Fin 8) {o : Fin 1 → ℕ} (ho : o = ![j.val]) {inb h} :
    SemLoc.dma ((cc0_scratch8.slice (Rect.unit (s := S8) o S1.size inb)).squeeze S_ h).sem = csem (idx (.arc j)) := by
  rw [csem_pos _ (by show 28 + j.val ≠ 0; omega)]
  exact congrArg SemLoc.dma (Fin.ext ((sem_val 29 _ j.val ho).trans (by show _ = 28 + j.val + 1; omega)))
theorem sem_w (j : Fin 3) {o : Fin 1 → ℕ} (ho : o = ![j.val]) {inb h} :
    SemLoc.dma ((cc0_scratch4.slice (Rect.unit (s := S3) o S1.size inb)).squeeze S_ h).sem = csem (idx (.w j)) := by
  rw [csem_pos _ (by show 1 + j.val ≠ 0; omega)]
  exact congrArg SemLoc.dma (Fin.ext ((sem_val 2 _ j.val ho).trans (by show _ = 1 + j.val + 1; omega)))

/-! ## What the landings leave -/

/-- Row block `d` of device `c`'s rounded array, landed in column block `c` of device `d`'s gathered rows. -/
theorem land_x (c d : Dev nD) (f : (cc0_scratch1 : Ref sig .tc).ty.Contents (Elt F)) :
    ∀ i ∈ (colR c).set, ((View.whole cc0_scratch1).slice (colR c)).write (Elt F) f
      (((View.whole cc0_scratch0).slice (rowR d)).read (Elt F) (xb m ρ c)) Finset.univ i = xg m ρ d i := by
  intro i hi
  rw [← View.set_slice_whole cc0_scratch1 (colR c)] at hi
  obtain ⟨a, -, rfl⟩ := Finset.mem_map.mp hi
  refine (View.write_emb_of_mem (v := (View.whole cc0_scratch1).slice (colR c)) f _ (Finset.mem_univ a)).trans ?_
  have h0 : (a 0).val < 512 := (a 0).isLt
  have h1 : (a 1).val < 512 := (a 1).isLt
  have e0 : (((colR c).emb a) 0).val = 0 + 1 * (a 0).val := rfl
  have e1 : (((colR c).emb a) 1).val = 512 * c.val + 1 * (a 1).val := rfl
  show xb m ρ c ((rowR d).emb a) = xg m ρ d ((colR c).emb a)
  unfold xg
  have hc : (⟨(((colR c).emb a) 1).val / 512, by rw [e1]; have := c.isLt; show _ < 8; have : c.val < 8 := c.isLt; omega⟩ : Dev nD) = c :=
    Fin.ext (by show (((colR c).emb a) 1).val / 512 = c.val; rw [e1]; omega)
  have hi : (rowR d).emb a = ix2 (⟨512 * d.val + (((colR c).emb a) 0).val, by rw [e0]; have : d.val < 8 := d.isLt; omega⟩ : Fin 4096)
      (⟨(((colR c).emb a) 1).val % 512, Nat.mod_lt _ (by decide)⟩ : Fin 512) := by
    funext x
    match x with
    | ⟨0, _⟩ => exact Fin.ext (by show 512 * d.val + 1 * (a 0).val = 512 * d.val + (((colR c).emb a) 0).val; rw [e0]; omega)
    | ⟨1, _⟩ => exact Fin.ext (by show 0 + 1 * (a 1).val = (((colR c).emb a) 1).val % 512; rw [e1]; omega)
  rw [hi]
  exact congrArg (fun e => xb m ρ e _) hc.symm

/-- A row of maxima rewritten with the values some contents have there agrees with those contents. -/
theorem am_write (c : Fin 8) (f g : (cc0_scratch3 : Ref sig .tc).ty.Contents (Elt F)) (w : Vec F S1x128 .f32)
    (h : ∀ a : S1x128.Idx, w a = g ((amR c).emb a)) :
    ∀ i ∈ (amR c).set, ((View.whole cc0_scratch3).slice (amR c)).write (Elt F) f w Finset.univ i = g i := by
  intro i hi
  rw [← View.set_slice_whole cc0_scratch3 (amR c)] at hi
  obtain ⟨a, -, rfl⟩ := Finset.mem_map.mp hi
  exact (View.write_emb_of_mem (v := (View.whole cc0_scratch3).slice (amR c)) f w (Finset.mem_univ a)).trans (h a)

/-- A row of maxima, landed on another device: the same row there. -/
theorem land_am (c : Fin 8) (f g : (cc0_scratch3 : Ref sig .tc).ty.Contents (Elt F)) :
    ∀ i ∈ (amR c).set, ((View.whole cc0_scratch3).slice (amR c)).write (Elt F) f
      (((View.whole cc0_scratch3).slice (amR c)).read (Elt F) g) Finset.univ i = g i :=
  am_write c f g _ fun a => rfl

/-- The row of maxima a device stores is its row of the eight. -/
theorem store_am (c : Dev nD) (f : (cc0_scratch3 : Ref sig .tc).ty.Contents (Elt F)) :
    ∀ i ∈ (amR c).set, ((View.whole cc0_scratch3).slice (amR c)).write (Elt F) f (amrow m ρ c) Finset.univ i = am m ρ i := by
  refine am_write c f _ _ fun a => ?_
  have h0 : (a 0).val < 1 := (a 0).isLt
  unfold am
  have e0 : (((amR c).emb a) 0).val = c.val + 1 * (a 0).val := rfl
  have e1 : (((amR c).emb a) 1).val = 0 + 1 * (a 1).val := rfl
  have hc : (⟨(((amR c).emb a) 0).val, (((amR c).emb a) 0).isLt⟩ : Dev nD) = c := Fin.ext (by show (((amR c).emb a) 0).val = c.val; rw [e0]; omega)
  have hi : a = ix2 (0 : Fin 1) (⟨(((amR c).emb a) 1).val, (((amR c).emb a) 1).isLt⟩ : Fin 128) := by
    funext x
    match x with
    | ⟨0, _⟩ => exact Fin.ext (by show (a 0).val = 0; omega)
    | ⟨1, _⟩ => exact Fin.ext (by show (a 1).val = (((amR c).emb a) 1).val; rw [e1]; omega)
  exact (congrArg (amrow m ρ c) hi).trans (congrArg (fun e => amrow m ρ e _) hc.symm)

/-- The block a device keeps, stored in its own column block. -/
theorem store_x (c : Dev nD) (f : (cc0_scratch1 : Ref sig .tc).ty.Contents (Elt F)) :
    ∀ i ∈ (colR c).set, ((View.whole cc0_scratch1).slice (colR c)).write (Elt F) f
      (k0_pay3 (((View.whole cc0_scratch0).slice (rowR c)).read (Elt F) (xb m ρ c))) Finset.univ i = xg m ρ c i := by
  have e : k0_pay3 (F := F) (((View.whole cc0_scratch0).slice (rowR c)).read (Elt F) (xb m ρ c))
      = ((View.whole cc0_scratch0).slice (rowR c)).read (Elt F) (xb m ρ c) := by
    unfold k0_pay3; exact shapeCast_self _ _
  rw [e]; exact land_x m ρ c c f

/-- Row block `j` of the weights, landed in slot `s`. -/
theorem land_w (c : Dev nD) (s : Fin 3) (j : Fin 8) {h} (f : (cc0_scratch2 : Ref sig .tc).ty.Contents (Elt F)) :
    ∀ i ∈ (slotR s).set, (((View.whole cc0_scratch2).slice (slotR s)).reshape S512x2048 h).write (Elt F) f
      (((View.whole main_arg1).slice (wrowR j)).read (Elt F) (wv m c)) Finset.univ i = ws m c j i := by
  intro i hi
  rw [← View.set_slice_whole cc0_scratch2 (slotR s), ← View.set_reshape _ h] at hi
  obtain ⟨a, -, rfl⟩ := Finset.mem_map.mp hi
  refine (View.write_emb_of_mem (v := ((View.whole cc0_scratch2).slice (slotR s)).reshape S512x2048 h) f _ (Finset.mem_univ a)).trans ?_
  show wv m c ((wrowR j).emb a) = ws m c j ((slotR s).emb (Shape.reshapeEquiv h a))
  have ea : a = ix2 (a 0) (a 1) := ValueIdx.eq_ix2 a
  have er : Shape.reshapeEquiv h a = ix3 (⟨0, Nat.one_pos⟩ : Fin 1) (a 0) (a 1) := by
    rw [ea]; exact ValueIdx.reshapeEquiv_ix2_1ab h (a 0) (a 1)
  rw [er]
  unfold ws
  refine congrArg (wv m c) (funext fun x => ?_)
  match x with
  | ⟨0, _⟩ => exact Fin.ext (by show 512 * j.val + 1 * (a 0).val = 512 * j.val + (0 + 1 * (a 0).val); omega)
  | ⟨1, _⟩ => exact Fin.ext (by show 0 + 1 * (a 1).val = 0 + 1 * (a 1).val; rfl)

end Cert.Run

end
-- ==== Proof.Rules.lean ====
/- One rule per kind of step of the kernel, stated once for every device, place and slot: what the step takes and what
   it leaves. -/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The shared records -/

/-- Every cell's invariant and that every cell stands at its first round. -/
def records (K : Dev nD × Fin 36 → ℕ) : sProp 𝕄 :=
  iprop((bigSep Finset.univ fun ck : Dev nD × Fin 36 => cellInv ER (Rd m ρ) (K ck) (kcell ck))
    ∗ bigSep Finset.univ fun ck : Dev nD × Fin 36 => reached ER (kcell ck) 0)

instance (K : Dev nD × Fin 36 → ℕ) : BI.Persistent (records (F := F) m ρ K) := by unfold records; infer_instance

/-- The records with the levels of the cells. -/
def ctx (K : Dev nD × Fin 36 → ℕ) : sProp 𝕄 := iprop(records m ρ K ∗ levAts L lv)

instance (K : Dev nD × Fin 36 → ℕ) : BI.Persistent (ctx (F := F) m ρ K) := by unfold ctx; infer_instance

variable (K : Dev nD × Fin 36 → ℕ)

theorem inv_at (c : Dev nD) (k : Knd) : ctx (F := F) m ρ K ⊢ cellInv ER (Rd m ρ) (K (c, idx k)) (cell c k) := by
  unfold ctx records
  iintro ⟨⟨H, -⟩, -⟩
  iapply (show (bigSep Finset.univ fun ck : Dev nD × Fin 36 => cellInv ER (Rd (F := F) m ρ) (K ck) (kcell ck)) ⊢ cellInv ER (Rd (F := F) m ρ) (K (c, idx k)) (kcell (c, idx k))
    from BI.bigSep_elim (Finset.mem_univ (c, idx k)))
  iexact H

theorem reached_at (c : Dev nD) (k : Knd) : ctx (F := F) m ρ K ⊢ reached ER (cell c k) 0 := by
  unfold ctx records
  iintro ⟨⟨-, H⟩, -⟩
  iapply (show (bigSep Finset.univ fun ck : Dev nD × Fin 36 => (reached ER (kcell ck) 0 : sProp 𝕄)) ⊢ reached ER (kcell (c, idx k)) 0
    from BI.bigSep_elim (Finset.mem_univ (c, idx k)))
  iexact H

theorem lev_at : ctx (F := F) m ρ K ⊢ levAts L lv := by
  unfold ctx
  iintro ⟨-, H⟩
  iexact H

/-- What device `c` owes with `n` payments left, whatever waits it has made. -/
def owing (c : Dev nD) (n : ℕ) : sProp 𝕄 := iprop(∃ W, owes (c : Thread nD τ) (ow c n) W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Credits -/

theorem cred_x1 {o inb h} : ((Memref.whole cc0_scratch1).slice (Rect.unit (s := S512x4096) o S512x512.size inb) h).view.dmaCredit = N1 := rfl
theorem cred_x0 {o inb h} : ((Memref.whole cc0_scratch0).slice (Rect.unit (s := S4096x512) o S512x512.size inb) h).view.dmaCredit = N1 := rfl
theorem cred_am {o inb h} : ((Memref.whole cc0_scratch3).slice (Rect.unit (s := S8x128) o S1x128.size inb) h).view.dmaCredit = N2 := rfl
theorem cred_w {o inb h h'} : (((Memref.whole cc0_scratch2).slice (Rect.unit (s := S3x512x2048) o S1x512x2048.size inb) h).squeeze S512x2048 h').view.dmaCredit = N3 := rfl

/-! ## Steps that pay another device -/

theorem payload_barrier (c n : Dev nD) : (Rd (F := F) m ρ).payload ((n : Thread nD τ), .reg barrier0) 0 c = barPay n c :=
  payload_cell m ρ n (k := .bar) (by decide) 0 c

/-- A barrier signal to `n`: the pieces `n` will write are handed over. -/
theorem signal_step (c n : Dev nD) (i : ℕ) (hn : oweD c i = n) (hk : oweK c i = .bar) (hcn : c ≠ n) {n' : Dev nD} (hn' : n' = n) {x : ℤ} (hx : x = 1)
    {α : Type} {Q : α → sProp 𝕄} {k : PUnit → Prog (TpuEff nD τ sig (Elt F) Λ₀ .tc) α} :
    iprop(ctx m ρ K ∗ owing c (i + 1) ∗ dutyTok ER (cell n .bar) 0 c ∗ barPay n c)
      ⊢ iprop((owing c i -∗ WP c (k ⟨⟩) Q) -∗ WP c (.op (.semSignal (Dev.tc n' : Thread nD τ) barrier0 x) k) Q) := by
  subst hx hn'
  iintro ⟨#HC, HO, Ht, Hp⟩ Hk
  unfold owing
  icases HO with ⟨%W, HO⟩
  iapply (Rounds.wp_signal 𝒱₀ ER (Rd m ρ) (c : Thread nD τ) none (dst := (n' : Thread nD τ)) (sem := barrier0) (κ := K (n', idx .bar)) (r := 0) (d := c) (k' := 1)
      (by show c ∈ (Rd m ρ).duties (cell n' .bar) 0
          rw [duties_cell m ρ n' (by decide)]; exact Finset.mem_erase.mpr ⟨hcn, Finset.mem_univ c⟩)
      (by show (Rd m ρ).amount (cell n' .bar) 0 c = 1; rw [amount_cell m ρ n' (by decide)]; rfl) () (ow c i)
      (by show ow c i + tallyAt (cell (oweD c i) (oweK c i)) () (amt (oweK c i)) = _; rw [hn, hk]; rfl)) $$ [HO Ht Hp]
  · isplitr; · iapply (inv_at m ρ K n' .bar); iexact HC
    isplitl [HO]; · iexact HO
    isplitl [Ht]; · iexact Ht
    isplitl [Hp]; · iapply (Entails.of_eq (payload_barrier m ρ c n').symm); iexact Hp
    iapply (reached_at m ρ K n' .bar); iexact HC
  iintro HO
  iapply Hk
  iexists W
  iexact HO

theorem xrow_view (c : Dev nD) (t : Fin 8) (f) : iprop((((View.whole cc0_scratch0).slice (rowR t)).loc (c : Thread nD τ))
    ↦[((View.whole cc0_scratch0).slice (rowR t)).set]{fullShare} f) = xrow (F := F) c t f := by
  unfold xrow; rw [View.set_slice_whole]
theorem xcol_view (c : Dev nD) (t : Fin 8) (f) : iprop((((View.whole cc0_scratch1).slice (colR t)).loc (c : Thread nD τ))
    ↦[((View.whole cc0_scratch1).slice (colR t)).set]{fullShare} f) = xcol (F := F) c t f := by
  unfold xcol; rw [View.set_slice_whole]
theorem amr_view (c : Dev nD) (t : Fin 8) (q f) : iprop((((View.whole cc0_scratch3).slice (amR t)).loc (c : Thread nD τ))
    ↦[((View.whole cc0_scratch3).slice (amR t)).set]{q} f) = amr (F := F) c t q f := by
  unfold amr; rw [View.set_slice_whole]
theorem wrow_view (c : Dev nD) (t : Fin 8) : iprop((((View.whole main_arg1).slice (wrowR t)).loc (c : Thread nD τ))
    ↦[((View.whole main_arg1).slice (wrowR t)).set]{fullShare} (wv m c)) = wrow (F := F) m c t := by
  unfold wrow; rw [View.set_slice_whole]
theorem wsl_view (c : Dev nD) (s : Fin 3) {h} (f) : iprop(((((View.whole cc0_scratch2).slice (slotR s)).reshape S512x2048 h).loc (c : Thread nD τ))
    ↦[(((View.whole cc0_scratch2).slice (slotR s)).reshape S512x2048 h).set]{fullShare} f) = wsl (F := F) c s f := by
  unfold wsl; rw [View.set_reshape, View.set_slice_whole]

theorem duty_snd {c t : Fin 8} (h : t ≠ c) : duty c (.snd t) 0 = {c} := if_pos ⟨rfl, h⟩
theorem duty_rcv {c j : Fin 8} (h : j ≠ c) : duty c (.rcv j) 0 = {j} := if_pos ⟨rfl, h⟩
theorem duty_asd {c t : Fin 8} (h : t ≠ c) : duty c (.asd t) 0 = {c} := if_pos ⟨rfl, h⟩
theorem duty_arc {c j : Fin 8} (h : j ≠ c) : duty c (.arc j) 0 = {j} := if_pos ⟨rfl, h⟩

/-- A round's only payer is among its payers. -/
theorem duty_mem (c : Dev nD) {k : Knd} (hk : k ≠ .none) {r : ℕ} {d : Dev nD} (h : duty c k r = {d}) : d ∈ (Rd (F := F) m ρ).duties (cell c k) r := by
  rw [duties_cell m ρ c hk, h]; exact Finset.mem_singleton_self d

theorem snd_ne (t : Fin 8) : Knd.snd t ≠ .none := fun h => by cases h
theorem rcv_ne (t : Fin 8) : Knd.rcv t ≠ .none := fun h => by cases h
theorem asd_ne (t : Fin 8) : Knd.asd t ≠ .none := fun h => by cases h
theorem arc_ne (t : Fin 8) : Knd.arc t ≠ .none := fun h => by cases h
theorem w_ne (t : Fin 3) : Knd.w t ≠ .none := fun h => by cases h

/-- Off the barrier a cell is credited a transfer's bytes. -/
theorem amount_csem {κ : Kind} {sp : Space} {s : Shape} {e : EltTy} (v : View sig κ sp s e) (k : Fin 36) (hk : k.val ≠ 0) :
    v.amount (csem k) = v.dmaCredit := by rw [csem_pos k hk]

/-- The source rows of a data send are its send cell's payload. -/
theorem pays_snd (c n : Dev nD) : iprop((((View.whole cc0_scratch0).slice (rowR n)).loc (c : Thread nD τ))
    ↦[((View.whole cc0_scratch0).slice (rowR n)).set]{fullShare} (xb m ρ c)) ⊢ (Rd (F := F) m ρ).payload (cell c (.snd n)) 0 c := by
  rw [xrow_view, payload_cell m ρ c (snd_ne n)]; exact BI.Entails.refl _

/-- The landing of a data send is its arrival cell's payload. -/
theorem pays_rcv (c n : Dev nD) (f : (cc0_scratch1 : Ref sig .tc).ty.Contents (Elt F)) :
    iprop((((View.whole cc0_scratch1).slice (colR c)).loc (n : Thread nD τ)) ↦[((View.whole cc0_scratch1).slice (colR c)).set]{fullShare}
      (((View.whole cc0_scratch1).slice (colR c)).write (Elt F) f (((View.whole cc0_scratch0).slice (rowR n)).read (Elt F) (xb m ρ c)) Finset.univ))
      ⊢ (Rd (F := F) m ρ).payload (cell n (.rcv c)) 0 c := by
  rw [xcol_view, payload_cell m ρ n (rcv_ne c)]
  unfold xcol
  rw [pointsTo_congr (land_x m ρ c n f)]; exact BI.Entails.refl _

/-- A data block sent to `n`. -/
theorem send_step (c n : Dev nD) (i : ℕ) (hn : oweD c i = n) (hk : oweK c i = .rcv c) (hcn : c ≠ n)
    {o3 o4 : Fin 2 → ℕ} (h3 : o3 = ![0, 512 * c.val]) (h4 : o4 = ![512 * n.val, 0]) {inb3 inb4 e3 e4}
    {n' : Dev nD} (hn' : n' = n) {sS sR : SemLoc sig} (hS : sS = csem (idx (.snd n))) (hR : sR = csem (idx (.rcv c))) {hsc hsrc hdst hsem}
    {α : Type} {Q : α → sProp 𝕄} {k : PUnit → Prog (TpuEff nD τ sig (Elt F) Λ₀ .tc) α} :
    iprop(ctx m ρ K ∗ owing c (i + 1) ∗ dutyTok ER (cell c (.snd n)) 0 c ∗ dutyTok ER (cell n (.rcv c)) 0 c
        ∗ xrow c n (xb m ρ c) ∗ ∃ f, xcol n c f)
      ⊢ iprop((owing c i ∗ cred (tallyAt (cell c (.snd n)) () N1) -∗ WP c (k ⟨⟩) Q)
          -∗ WP c (.op (.enqueueDma (((Memref.whole cc0_scratch0).slice (Rect.unit (s := S4096x512) o4 S512x512.size inb4) e4 : Memref sig .tc .vmem S512x512 .bf16))
            (.remote (Dev.tc n' : Thread nD τ) ((Memref.whole cc0_scratch1).slice (Rect.unit (s := S512x4096) o3 S512x512.size inb3) e3 : Memref sig .tc .vmem S512x512 .bf16) sS hsc) sR hsrc hdst hsem) k) Q) := by
  subst h3 h4 hn' hS hR
  iintro ⟨#HC, HO, Ht1, Ht2, Hs, ⟨%f, Hd⟩⟩ Hk
  unfold owing
  icases HO with ⟨%W, HO⟩
  iapply (Rounds.wp_send_pointsTo 𝒱₀ ER (Rd m ρ) (c : Thread nD τ) none (c' := (n' : Thread nD τ))
      (src := ((Memref.whole cc0_scratch0).slice (Rect.unit (s := S4096x512) ![512 * n'.val, 0] S512x512.size inb4) e4 : Memref sig .tc .vmem S512x512 .bf16))
      (dst := ((Memref.whole cc0_scratch1).slice (Rect.unit (s := S512x4096) ![0, 512 * c.val] S512x512.size inb3) e3 : Memref sig .tc .vmem S512x512 .bf16))
      (sS := csem (idx (.snd n'))) (sem := csem (idx (.rcv c))) (q := fullShare) (κ₁ := K (c, idx (.snd n'))) (κ₂ := K (n', idx (.rcv c)))
      (r₁ := 0) (r₂ := 0) (d₁ := c) (d₂ := c) (fd := f) (fs := xb m ρ c)
      (duty_mem m ρ c (snd_ne n') (duty_snd (Ne.symm hcn))) (duty_mem m ρ n' (rcv_ne c) (duty_rcv hcn))
      () () N1 ((amount_csem _ _ (by show 12 + c.val ≠ 0; omega)).trans cred_x1) (amount_cell m ρ c (snd_ne n') 0 c) (amount_cell m ρ n' (rcv_ne c) 0 c) (ow c i)
      (by show ow c i + tallyAt (cell (oweD c i) (oweK c i)) () (amt (oweK c i)) = _; rw [hn, hk]; rfl) (W := W)
      (pays_snd m ρ c n') (pays_rcv m ρ c n' f)) $$ [HO Ht1 Ht2 Hs Hd]
  · isplitr; · iapply (inv_at m ρ K c (.snd n')); iexact HC
    isplitr; · iapply (inv_at m ρ K n' (.rcv c)); iexact HC
    isplitl [Hs]; · iapply (Entails.of_eq (xrow_view c n' _).symm); iexact Hs
    isplitl [Hd]; · iapply (Entails.of_eq (xcol_view n' c _).symm); iexact Hd
    isplitl [HO]; · iexact HO
    isplitl [Ht1]; · iexact Ht1
    isplitr; · iapply (reached_at m ρ K c (.snd n')); iexact HC
    isplitl [Ht2]; · iexact Ht2
    iapply (reached_at m ρ K n' (.rcv c)); iexact HC
  iintro ⟨Hc, HO⟩
  iapply Hk
  isplitl [HO]
  · iexists W; iexact HO
  iexact Hc

theorem duty_w {c : Dev nD} {s : Fin 3} {r : ℕ} (h : 3 * r + s.val < 8) : duty c (.w s) r = {c} := if_pos h

/-- The share a row of maxima is held at, split for the next send and rejoined when it returns. -/
theorem amr_split (c : Dev nD) (j : Fin 8) (r : ℕ) (f) : amr (F := F) c j (keep r) f ⊣⊢ iprop(amr c j (lend r) f ∗ amr c j (keep (r + 1)) f) :=
  pointsTo_share (by unfold lend; rw [show keep (r + 1) = (keep r).right from rfl, PosShare.left_op_right]; exact Part.mem_some _)

/-- The lent share of a device's row is its send cell's payload. -/
theorem pays_asd (c n : Dev nD) (r : ℕ) (hr : (n - c).val - 1 = r) : iprop((((View.whole cc0_scratch3).slice (amR c)).loc (c : Thread nD τ))
    ↦[((View.whole cc0_scratch3).slice (amR c)).set]{lend r} (am m ρ)) ⊢ (Rd (F := F) m ρ).payload (cell c (.asd n)) 0 c := by
  rw [amr_view, payload_cell m ρ c (asd_ne n)]; subst hr; exact BI.Entails.refl _

/-- The landing of a row of maxima is its arrival cell's payload. -/
theorem pays_arc (c n : Dev nD) (f : (cc0_scratch3 : Ref sig .tc).ty.Contents (Elt F)) :
    iprop((((View.whole cc0_scratch3).slice (amR c)).loc (n : Thread nD τ)) ↦[((View.whole cc0_scratch3).slice (amR c)).set]{fullShare}
      (((View.whole cc0_scratch3).slice (amR c)).write (Elt F) f (((View.whole cc0_scratch3).slice (amR c)).read (Elt F) (am m ρ)) Finset.univ))
      ⊢ (Rd (F := F) m ρ).payload (cell n (.arc c)) 0 c := by
  rw [amr_view, payload_cell m ρ n (arc_ne c)]
  unfold amr
  rw [pointsTo_congr (land_am c f (am m ρ))]; exact BI.Entails.refl _

/-- A row of maxima sent to `n`, the `r`-th of the seven sends. -/
theorem amax_step (c n : Dev nD) (i r : ℕ) (hn : oweD c i = n) (hk : oweK c i = .arc c) (hcn : c ≠ n) (hr : (n - c).val - 1 = r)
    {o o' : Fin 2 → ℕ} (h3 : o = ![c.val, 0]) (h4 : o' = ![c.val, 0]) {inb inb' e e'}
    {n' : Dev nD} (hn' : n' = n) {sS sR : SemLoc sig} (hS : sS = csem (idx (.asd n))) (hR : sR = csem (idx (.arc c))) {hsc hsrc hdst hsem}
    {α : Type} {Q : α → sProp 𝕄} {k : PUnit → Prog (TpuEff nD τ sig (Elt F) Λ₀ .tc) α} :
    iprop(ctx m ρ K ∗ owing c (i + 1) ∗ dutyTok ER (cell c (.asd n)) 0 c ∗ dutyTok ER (cell n (.arc c)) 0 c
        ∗ amr c c (keep r) (am m ρ) ∗ ∃ f, amr n c fullShare f)
      ⊢ iprop((owing c i ∗ amr c c (keep (r + 1)) (am m ρ) ∗ cred (tallyAt (cell c (.asd n)) () N2) -∗ WP c (k ⟨⟩) Q)
          -∗ WP c (.op (.enqueueDma (((Memref.whole cc0_scratch3).slice (Rect.unit (s := S8x128) o S1x128.size inb) e : Memref sig .tc .vmem S1x128 .f32))
            (.remote (Dev.tc n' : Thread nD τ) ((Memref.whole cc0_scratch3).slice (Rect.unit (s := S8x128) o' S1x128.size inb') e' : Memref sig .tc .vmem S1x128 .f32) sS hsc) sR hsrc hdst hsem) k) Q) := by
  subst h3 h4 hn' hS hR
  iintro ⟨#HC, HO, Ht1, Ht2, Hs, ⟨%f, Hd⟩⟩ Hk
  unfold owing
  icases HO with ⟨%W, HO⟩
  ihave Hs := (amr_split c c r (am m ρ)).1 $$ Hs
  icases Hs with ⟨Hs, Hrest⟩
  iapply (Rounds.wp_send_pointsTo 𝒱₀ ER (Rd m ρ) (c : Thread nD τ) none (c' := (n' : Thread nD τ))
      (src := ((Memref.whole cc0_scratch3).slice (Rect.unit (s := S8x128) ![c.val, 0] S1x128.size inb) e : Memref sig .tc .vmem S1x128 .f32))
      (dst := ((Memref.whole cc0_scratch3).slice (Rect.unit (s := S8x128) ![c.val, 0] S1x128.size inb') e' : Memref sig .tc .vmem S1x128 .f32))
      (sS := csem (idx (.asd n'))) (sem := csem (idx (.arc c))) (q := lend r) (κ₁ := K (c, idx (.asd n'))) (κ₂ := K (n', idx (.arc c)))
      (r₁ := 0) (r₂ := 0) (d₁ := c) (d₂ := c) (fd := f) (fs := am m ρ)
      (duty_mem m ρ c (asd_ne n') (duty_asd (Ne.symm hcn))) (duty_mem m ρ n' (arc_ne c) (duty_arc hcn))
      () () N2 ((amount_csem _ _ (by show 28 + c.val ≠ 0; omega)).trans cred_am) (amount_cell m ρ c (asd_ne n') 0 c) (amount_cell m ρ n' (arc_ne c) 0 c) (ow c i)
      (by show ow c i + tallyAt (cell (oweD c i) (oweK c i)) () (amt (oweK c i)) = _; rw [hn, hk]; rfl) (W := W)
      (pays_asd m ρ c n' r hr) (pays_arc m ρ c n' f)) $$ [HO Ht1 Ht2 Hs Hd]
  · isplitr; · iapply (inv_at m ρ K c (.asd n')); iexact HC
    isplitr; · iapply (inv_at m ρ K n' (.arc c)); iexact HC
    isplitl [Hs]; · iapply (Entails.of_eq (amr_view c c _ _).symm); iexact Hs
    isplitl [Hd]; · iapply (Entails.of_eq (amr_view n' c _ _).symm); iexact Hd
    isplitl [HO]; · iexact HO
    isplitl [Ht1]; · iexact Ht1
    isplitr; · iapply (reached_at m ρ K c (.asd n')); iexact HC
    isplitl [Ht2]; · iexact Ht2
    iapply (reached_at m ρ K n' (.arc c)); iexact HC
  iintro ⟨Hc, HO⟩
  iapply Hk
  isplitl [HO]
  · iexists W; iexact HO
  isplitl [Hrest]; · iexact Hrest
  iexact Hc

/-! ## Copies of the weights -/

/-- The landing of a weight copy, with the rows it was read from, is its slot's payload. -/
theorem pays_w (c : Dev nD) (s : Fin 3) (r : ℕ) {h} (f : (cc0_scratch2 : Ref sig .tc).ty.Contents (Elt F)) :
    iprop((((((View.whole cc0_scratch2).slice (slotR s)).reshape S512x2048 h).loc (c : Thread nD τ))
        ↦[(((View.whole cc0_scratch2).slice (slotR s)).reshape S512x2048 h).set]{fullShare}
        ((((View.whole cc0_scratch2).slice (slotR s)).reshape S512x2048 h).write (Elt F) f
          (((View.whole main_arg1).slice (wrowR (wj s r))).read (Elt F) (wv m c)) Finset.univ))
      ∗ ((((View.whole main_arg1).slice (wrowR (wj s r))).loc (c : Thread nD τ)) ↦[((View.whole main_arg1).slice (wrowR (wj s r))).set]{fullShare} (wv m c)))
      ⊢ (Rd (F := F) m ρ).payload (cell c (.w s)) r c := by
  rw [wsl_view, wrow_view, payload_cell m ρ c (w_ne s)]
  unfold wsl
  rw [pointsTo_congr (land_w m c s (wj s r) f)]; exact BI.Entails.refl _

/-- A copy of a row block of the weights into slot `s`, the slot's `r`-th. -/
theorem copy_step (c : Dev nD) (s : Fin 3) (r : ℕ) (hsr : 3 * r + s.val < 8)
    {o1 : Fin 2 → ℕ} {o5 : Fin 3 → ℕ} (h1 : o1 = ![512 * (wj s r).val, 0]) (h5 : o5 = ![s.val, 0, 0]) {inb1 inb5 e1 e5 e5'}
    {sR : SemLoc sig} (hR : sR = csem (idx (.w s))) {hsrc hdst hsem}
    {α : Type} {Q : α → sProp 𝕄} {k : PUnit → Prog (TpuEff nD τ sig (Elt F) Λ₀ .tc) α} :
    iprop(ctx m ρ K ∗ dutyTok ER (cell c (.w s)) r c ∗ reached ER (cell c (.w s)) r ∗ wrow m c (wj s r) ∗ ∃ f, wsl c s f)
      ⊢ iprop((cred (tallyAt (cell c (.w s)) () N3) -∗ WP c (k ⟨⟩) Q)
          -∗ WP c (.op (.enqueueDma (((Memref.whole main_arg1).slice (Rect.unit (s := S4096x2048) o1 S512x2048.size inb1) e1 : Memref sig .tc .hbm S512x2048 .f32))
            (.here (((Memref.whole cc0_scratch2).slice (Rect.unit (s := S3x512x2048) o5 S1x512x2048.size inb5) e5).squeeze S512x2048 e5' : Memref sig .tc .vmem S512x2048 .f32))
            sR hsrc hdst hsem) k) Q) := by
  subst h1 h5 hR
  iintro ⟨#HC, Ht, Hr, Hs, ⟨%f, Hd⟩⟩ Hk
  iapply (Rounds.wp_copy_pointsTo 𝒱₀ ER (Rd m ρ) (c : Thread nD τ) none
      (src := ((Memref.whole main_arg1).slice (Rect.unit (s := S4096x2048) ![512 * (wj s r).val, 0] S512x2048.size inb1) e1 : Memref sig .tc .hbm S512x2048 .f32))
      (dst := (((Memref.whole cc0_scratch2).slice (Rect.unit (s := S3x512x2048) ![s.val, 0, 0] S1x512x2048.size inb5) e5).squeeze S512x2048 e5' : Memref sig .tc .vmem S512x2048 .f32))
      (sem := csem (idx (.w s))) (q := fullShare) (fs := wv m c) (fd := f) (r := r) (d := c) (κ := K (c, idx (.w s)))
      (duty_mem m ρ c (w_ne s) (duty_w hsr)) () N3 ((amount_csem _ _ (by show 1 + s.val ≠ 0; omega)).trans cred_w) (amount_cell m ρ c (w_ne s) r c)
      (pays_w m ρ c s r f)) $$ [Ht Hr Hs Hd]
  · isplitr; · iapply (inv_at m ρ K c (.w s)); iexact HC
    isplitl [Hs]; · iapply (Entails.of_eq (wrow_view m c _).symm); iexact Hs
    isplitl [Hd]; · iapply (Entails.of_eq (wsl_view c s _).symm); iexact Hd
    isplitl [Ht]; · iexact Ht
    iexact Hr
  iintro Hc
  iapply Hk
  iexact Hc

/-! ## Waits -/

/-- A wait for the one payment of a round of one of the device's own cells: the payment's pieces come back. -/
theorem wait_step (c : Dev nD) {k : Knd} (hk : k ≠ .none) (R n : ℕ) {d : Dev nD} (hd : duty c k R = {d})
    (hl : ∀ i < n, lvK k < lvK (oweK c i)) {q : DmaSem sig} (hq : SemLoc.dma q = csem (idx k))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k)
    {α : Type} {Q : α → sProp 𝕄} {kt : PUnit → Prog (TpuEff nD τ sig (Elt F) Λ₀ .tc) α} :
    iprop(ctx m ρ K ∗ cred (tallyAt (cell c k) () (amt k)) ∗ owing c n ∗ atPos ER (cell c k) R ∅ 0)
      ⊢ iprop((owing c n ∗ atPos ER (cell c k) (R + 1) ∅ 0 ∗ reached ER (cell c k) (R + 1) ∗ pay m ρ c k R d -∗ WP c (kt ⟨⟩) Q)
          -∗ WP c (.op (.waitDma2 q src dst hsrc hdst) kt) Q) := by
  iintro ⟨#HC, Hc, HO, Ha⟩ Hk
  unfold owing
  icases HO with ⟨%W, HO⟩
  iapply (Rounds.wp_wait_rest_token 𝒱₀ ER (Rd m ρ) (c : Thread nD τ) none (κ := K (c, idx k)) (sm := csem (idx k)) (k' := amt k)
      (fun KK => (wpE_waitDma2_eq 𝒱₀ (c : Thread nD τ) none Set.univ (src := src) (dst := dst) (hsrc := hsrc) (hdst := hdst) KK).trans (by rw [hq, hN]))
      (Set.mem_univ _) () (O := ow c n) (W := W) (R := R) (m := 0) (T := ∅)
      (by rw [expect_cell m ρ c hk, hd, Finset.card_singleton]; omega)) $$ [Hc HO Ha]
  · isplitr; · iapply (inv_at m ρ K c k); iexact HC
    isplitl [Hc]; · iexact Hc
    isplitl [HO]; · iexact HO
    isplitr
    · iapply (mayWait c (csem (idx k)) n (by rw [kd_cell k hk]; exact hl)); iapply (lev_at m ρ K); iexact HC
    iexact Ha
  iintro ⟨HO, Ha, Hr, Hp⟩
  iapply Hk
  isplitl [HO]; · iexists _; iexact HO
  isplitl [Ha]; · iexact Ha
  isplitl [Hr]; · iexact Hr
  iapply (Entails.of_eq (rest_one m ρ c hk R d hd)); iexact Hp

/-- A cell past its last payment: its counter is the device's again, at zero. -/
theorem close_step (c : Dev nD) {k : Knd} (hk : k ≠ .none) (R : ℕ) (h : ∀ r, R ≤ r → duty c k r = ∅) :
    iprop(ctx m ρ K ∗ atPos ER (cell c k) R ∅ 0) ⊢ (iprop(|={Set.univ}=> semVal (cell c k) 0) : sProp 𝕄) := by
  iintro ⟨#HC, Ha⟩
  iapply (Rounds.cell_close ER (Rd m ρ) (Set.mem_univ (K (c, idx k))) (fun h => h) (R := R)
    (fun r hr => (duties_cell m ρ c hk r).trans (h r hr)))
  isplitr; · iapply (inv_at m ρ K c k); iexact HC
  iexact Ha

/-- The wait for the only payment a cell ever gets: its pieces and the counter come back. -/
theorem wait_last (c : Dev nD) {k : Knd} (hk : k ≠ .none) (n : ℕ) {d : Dev nD} (hd : duty c k 0 = {d}) (h0 : ∀ r, 1 ≤ r → duty c k r = ∅)
    (hl : ∀ i < n, lvK k < lvK (oweK c i)) {q : DmaSem sig} (hq : SemLoc.dma q = csem (idx k))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amt k)
    {α : Type} {Q : α → sProp 𝕄} {kt : PUnit → Prog (TpuEff nD τ sig (Elt F) Λ₀ .tc) α} :
    iprop(ctx m ρ K ∗ cred (tallyAt (cell c k) () (amt k)) ∗ owing c n ∗ atPos ER (cell c k) 0 ∅ 0)
      ⊢ iprop((owing c n ∗ semVal (cell c k) 0 ∗ pay m ρ c k 0 d -∗ WP c (kt ⟨⟩) Q)
          -∗ WP c (.op (.waitDma2 q src dst hsrc hdst) kt) Q) := by
  iintro ⟨#HC, Hc, HO, Ha⟩ Hk
  iapply (wait_step m ρ K c hk 0 n hd hl hq hN) $$ [Hc HO Ha]
  · isplitr; · iexact HC
    isplitl [Hc]; · iexact Hc
    isplitl [HO] <;> iassumption
  iintro ⟨HO, Ha, -, Hp⟩
  imod (close_step m ρ K c hk 1 h0) $$ [Ha] with Hz
  · isplitr; · iexact HC
    iexact Ha
  iapply Hk
  isplitl [HO]; · iexact HO
  isplitl [Hz] <;> iassumption

theorem dutyN_snd (c : Dev nD) (t : Fin 8) : ∀ r, 1 ≤ r → duty c (.snd t) r = ∅ := fun r h => if_neg fun h' => by omega
theorem dutyN_rcv (c : Dev nD) (t : Fin 8) : ∀ r, 1 ≤ r → duty c (.rcv t) r = ∅ := fun r h => if_neg fun h' => by omega
theorem dutyN_asd (c : Dev nD) (t : Fin 8) : ∀ r, 1 ≤ r → duty c (.asd t) r = ∅ := fun r h => if_neg fun h' => by omega
theorem dutyN_arc (c : Dev nD) (t : Fin 8) : ∀ r, 1 ≤ r → duty c (.arc t) r = ∅ := fun r h => if_neg fun h' => by omega
theorem dutyN_bar (c : Dev nD) : ∀ r, 1 ≤ r → duty c .bar r = ∅ := fun r h => if_neg fun h' => by omega
theorem dutyN_w (c : Dev nD) (s : Fin 3) : ∀ r, 3 ≤ r → duty c (.w s) r = ∅ := fun r h => if_neg fun h' => by omega

/-- The wait for the seven signals: the pieces of the seven other devices this one will write. -/
theorem barrier_step (c : Dev nD) {x : ℤ} (hx : x = ((7 : ℕ) : ℤ)) {α : Type} {Q : α → sProp 𝕄} {kt : PUnit → Prog (TpuEff nD τ sig (Elt F) Λ₀ .tc) α} :
    iprop(ctx m ρ K ∗ cred (tallyAt (cell c .bar) () 7) ∗ owing c 14 ∗ atPos ER (cell c .bar) 0 ∅ 0)
      ⊢ iprop((owing c 14 ∗ semVal (cell c .bar) 0 ∗ bigSep (Finset.univ.erase c) (fun d => barPay c d) -∗ WP c (kt ⟨⟩) Q)
          -∗ WP c (.op (.semWait barrier0 x) kt) Q) := by
  subst hx
  iintro ⟨#HC, Hc, HO, Ha⟩ Hk
  unfold owing
  icases HO with ⟨%W, HO⟩
  iapply (Rounds.wp_wait_rest_token 𝒱₀ ER (Rd m ρ) (c : Thread nD τ) none (κ := K (c, idx .bar)) (sm := csem (idx .bar)) (k' := 7)
      (wpE_semWait_eq 𝒱₀ (c : Thread nD τ) none Set.univ (sem := barrier0) (k := 7))
      (Set.mem_univ _) () (O := ow c 14) (W := W) (R := 0) (m := 0) (T := ∅)
      (by rw [expect_cell m ρ c (by decide), card_bar]; rfl)) $$ [Hc HO Ha]
  · isplitr; · iapply (inv_at m ρ K c .bar); iexact HC
    isplitl [Hc]; · iexact Hc
    isplitl [HO]; · iexact HO
    isplitr
    · iapply (mayWait c (csem (idx .bar)) 14 (by rw [kd_cell .bar (by decide)]; revert c; decide)); iapply (lev_at m ρ K); iexact HC
    iexact Ha
  iintro ⟨HO, Ha, -, Hp⟩
  imod (close_step m ρ K c (k := .bar) (by decide) 1 (dutyN_bar c)) $$ [Ha] with Hz
  · isplitr; · iexact HC
    iexact Ha
  iapply Hk
  isplitl [HO]; · iexists _; iexact HO
  isplitl [Hz]; · iexact Hz
  iapply (Entails.of_eq (show bigSep ((Rd (F := F) m ρ).duties (cell c .bar) 0 \ ∅) (fun d => (Rd (F := F) m ρ).payload (cell c .bar) 0 d)
      = bigSep (Finset.univ.erase c) (fun d => barPay c d) by
    rw [Finset.sdiff_empty, duties_cell m ρ c (by decide)]
    exact congrArg (bigSep (Finset.univ.erase c)) (funext fun d => payload_cell m ρ c (k := .bar) (by decide) 0 d)))
  iexact Hp

theorem pay_rcv (c : Dev nD) (j : Fin 8) : pay (F := F) m ρ c (.rcv j) 0 j = xcol c j (xg m ρ c) := rfl
theorem pay_snd (c : Dev nD) (t : Fin 8) : pay (F := F) m ρ c (.snd t) 0 c = xrow c t (xb m ρ c) := rfl
theorem pay_arc (c : Dev nD) (j : Fin 8) : pay (F := F) m ρ c (.arc j) 0 j = amr c j fullShare (am m ρ) := rfl
theorem pay_asd (c : Dev nD) (t : Fin 8) (r : ℕ) (hr : (t - c).val - 1 = r) : pay (F := F) m ρ c (.asd t) 0 c = amr c c (lend r) (am m ρ) := by
  subst hr; rfl
theorem pay_w (c : Dev nD) (s : Fin 3) (r : ℕ) : pay (F := F) m ρ c (.w s) r c = wPay m c s (wj s r) := rfl

/-- A finished program needs its postcondition. -/
theorem WP_ret (c : Dev nD) {α : Type} {a : α} {Q : α → sProp 𝕄} : Q a ⊢ WP c (.ret a) Q := by
  show Q a ⊢ wp frame (wpE (defs₀ (F := F)) 𝒱₀ (c : Thread nD τ) none) Set.univ (.ret a) Q
  rw [wp_ret]; iintro H; imodintro; iexact H

/-- What device `c` has for column block `j` before its turn: the block itself if it is its own, else the credit of its arrival. -/
def rIn (c : Dev nD) (j : Fin 8) : sProp 𝕄 := if j = c then xcol c j (xg m ρ c) else cred (tallyAt (cell c (.rcv j)) () N1)

/-- The wait for column block `j`, skipped on the device whose own block it is. -/
theorem cond_step (c : Dev nD) (j : Fin 8) {P : Prop} [Decidable P] (hP : P ↔ c ≠ j) {q : DmaSem sig} (hq : SemLoc.dma q = csem (idx (.rcv j)))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N1) {Q : PUnit → sProp 𝕄} :
    iprop(ctx m ρ K ∗ rIn m ρ c j ∗ owing c 7 ∗ atPos ER (cell c (.rcv j)) 0 ∅ 0)
      ⊢ iprop((owing c 7 ∗ semVal (cell c (.rcv j)) 0 ∗ xcol c j (xg m ρ c) -∗ Q ⟨⟩)
          -∗ WP c (if h : P then (.op (.waitDma2 q src dst hsrc hdst) fun _ => .ret ⟨⟩) else .ret ⟨⟩) Q) := by
  by_cases h : P
  · rw [dif_pos h]
    have hne : j ≠ c := fun e => hP.mp h e.symm
    rw [show rIn m ρ c j = cred (tallyAt (cell c (.rcv j)) () N1) from if_neg hne]
    iintro ⟨#HC, Hr, HO, Ha⟩ Hk
    iapply (wait_last m ρ K c (rcv_ne j) 7 (duty_rcv hne) (dutyN_rcv c j)
      (by intro i hi; unfold oweK; rw [if_pos hi]; exact Nat.lt_succ_self 2) hq hN) $$ [Hr HO Ha]
    · isplitr; · iexact HC
      isplitl [Hr]; · iexact Hr
      isplitl [HO] <;> iassumption
    iintro ⟨HO, Hz, Hp⟩
    iapply (WP_ret c)
    iapply Hk
    isplitl [HO]; · iexact HO
    isplitl [Hz]; · iexact Hz
    iapply (Entails.of_eq (pay_rcv m ρ c j)); iexact Hp
  · rw [dif_neg h]
    have he : j = c := by
      by_contra hne; exact h (hP.mpr fun e => hne e.symm)
    subst he
    rw [show rIn m ρ j j = xcol j j (xg m ρ j) from if_pos rfl]
    iintro ⟨#HC, Hr, HO, Ha⟩ Hk
    imod (close_step m ρ K j (rcv_ne j) 0 (fun r _ => if_neg fun h' => h'.2 rfl)) $$ [Ha] with Hz
    · isplitr; · iexact HC
      iexact Ha
    iapply (WP_ret j)
    iapply Hk
    isplitl [HO]; · iexact HO
    isplitl [Hz]; · iexact Hz
    iexact Hr

end Cert.Run

end
-- ==== Proof.Access.lean ====
/- The kernel's loads and stores: of whole buffers, and of the pieces the landings bring. -/
module

public import proofs.«01_k».proof.Proof.Rules

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

theorem zero2 (o : Fin 2 → ℕ) (h : o = ![0, 0]) : o = fun _ => 0 := by
  subst h; funext x; match x with | ⟨0, _⟩ => rfl | ⟨1, _⟩ => rfl

theorem setOn_whole (b : Ref sig .tc) (S : Finset b.ty.shape.Idx) : (View.whole b : View sig .tc _ _ _).setOn S = S := by
  show S.map (Function.Embedding.refl _) = S; exact Finset.map_refl

/-- Buffer `b` of device `c`, whole. -/
def bufP (c : Dev nD) (b : Ref sig .tc) (f : b.ty.Contents (Elt F)) : sProp 𝕄 := ((c : Thread nD τ).loc b) ↦{fullShare} f

/-! ## The result's buffer, the block's and the rounded block's -/

theorem load_out (c : Dev nD) (f : Vec F S512x2048 .f32) {inb hl} {α : Type} {Q : α → sProp 𝕄}
    {k : Vec F S512x2048 .f32 → Prog (TpuEff nD τ sig (Elt F) Λ₀ .tc) α} :
    bufP c cc0_stg1_0 f ⊢ iprop((bufP c cc0_stg1_0 f -∗ WP c (k f) Q)
      -∗ WP c (.op (.load (Memref.whole cc0_stg1_0 : Memref sig .tc .vmem S512x2048 .f32)
        (Rect.unit (s := S512x2048) ![0, 0] S512x2048.size inb).toLoadRect hl) k) Q) := by
  have e : (Memref.whole cc0_stg1_0 : Memref sig .tc .vmem S512x2048 .f32).view.readAt (Elt F) (Rect.unit (s := S512x2048) ![0, 0] S512x2048.size inb).toLoadRect f = f :=
    Memref.readAt_unit_zero (Elt F) cc0_stg1_0 (zero2 ![0, 0] rfl) inb f
  unfold bufP
  iintro H Hk
  iapply (wp_load 𝒱₀ (c : Thread nD τ) none Set.univ (m := (Memref.whole cc0_stg1_0 : Memref sig .tc .vmem S512x2048 .f32)) (Finset.subset_univ _)) $$ H
  rw [e]; iexact Hk

theorem store_out (c : Dev nD) (f w : Vec F S512x2048 .f32) {inb hx hm} {α : Type} {Q : α → sProp 𝕄}
    {k : PUnit → Prog (TpuEff nD τ sig (Elt F) Λ₀ .tc) α} :
    bufP c cc0_stg1_0 f ⊢ iprop((bufP c cc0_stg1_0 w -∗ WP c (k ⟨⟩) Q)
      -∗ WP c (.op (.store (Memref.whole cc0_stg1_0 : Memref sig .tc .vmem S512x2048 .f32)
        (Rect.unit (s := S512x2048) ![0, 0] S512x2048.size inb) w Finset.univ hx hm) k) Q) := by
  have e : ((Memref.whole cc0_stg1_0 : Memref sig .tc .vmem S512x2048 .f32).access (Rect.unit (s := S512x2048) ![0, 0] S512x2048.size inb) : View sig .tc _ _ _).write (Elt F) f w Finset.univ = w :=
    Memref.write_access_unit_zero_univ (Elt F) cc0_stg1_0 (zero2 ![0, 0] rfl) inb f w
  unfold bufP
  iintro H Hk
  iapply (wp_store 𝒱₀ (c : Thread nD τ) none Set.univ (m := (Memref.whole cc0_stg1_0 : Memref sig .tc .vmem S512x2048 .f32)) (r := (Rect.unit (s := S512x2048) ![0, 0] S512x2048.size inb)) (Mk := Finset.univ) (Finset.subset_univ _)) $$ H
  rw [e]; iexact Hk

theorem load_in (c : Dev nD) (f : Vec F S4096x512 .f32) {inb hl} {α : Type} {Q : α → sProp 𝕄}
    {k : Vec F S4096x512 .f32 → Prog (TpuEff nD τ sig (Elt F) Λ₀ .tc) α} :
    bufP c cc0_stg0_0 f ⊢ iprop((bufP c cc0_stg0_0 f -∗ WP c (k f) Q)
      -∗ WP c (.op (.load (Memref.whole cc0_stg0_0 : Memref sig .tc .vmem S4096x512 .f32)
        (Rect.unit (s := S4096x512) ![0, 0] S4096x512.size inb).toLoadRect hl) k) Q) := by
  have e : (Memref.whole cc0_stg0_0 : Memref sig .tc .vmem S4096x512 .f32).view.readAt (Elt F) (Rect.unit (s := S4096x512) ![0, 0] S4096x512.size inb).toLoadRect f = f :=
    Memref.readAt_unit_zero (Elt F) cc0_stg0_0 (zero2 ![0, 0] rfl) inb f
  unfold bufP
  iintro H Hk
  iapply (wp_load 𝒱₀ (c : Thread nD τ) none Set.univ (m := (Memref.whole cc0_stg0_0 : Memref sig .tc .vmem S4096x512 .f32)) (Finset.subset_univ _)) $$ H
  rw [e]; iexact Hk

theorem load_xb (c : Dev nD) (f : Vec F S4096x512 .bf16) {inb hl} {α : Type} {Q : α → sProp 𝕄}
    {k : Vec F S4096x512 .bf16 → Prog (TpuEff nD τ sig (Elt F) Λ₀ .tc) α} :
    bufP c cc0_scratch0 f ⊢ iprop((bufP c cc0_scratch0 f -∗ WP c (k f) Q)
      -∗ WP c (.op (.load (Memref.whole cc0_scratch0 : Memref sig .tc .vmem S4096x512 .bf16)
        (Rect.unit (s := S4096x512) ![0, 0] S4096x512.size inb).toLoadRect hl) k) Q) := by
  have e : (Memref.whole cc0_scratch0 : Memref sig .tc .vmem S4096x512 .bf16).view.readAt (Elt F) (Rect.unit (s := S4096x512) ![0, 0] S4096x512.size inb).toLoadRect f = f :=
    Memref.readAt_unit_zero (Elt F) cc0_scratch0 (zero2 ![0, 0] rfl) inb f
  unfold bufP
  iintro H Hk
  iapply (wp_load 𝒱₀ (c : Thread nD τ) none Set.univ (m := (Memref.whole cc0_scratch0 : Memref sig .tc .vmem S4096x512 .bf16)) (Finset.subset_univ _)) $$ H
  rw [e]; iexact Hk

theorem store_xb (c : Dev nD) (f w : Vec F S4096x512 .bf16) {inb hx hm} {α : Type} {Q : α → sProp 𝕄}
    {k : PUnit → Prog (TpuEff nD τ sig (Elt F) Λ₀ .tc) α} :
    bufP c cc0_scratch0 f ⊢ iprop((bufP c cc0_scratch0 w -∗ WP c (k ⟨⟩) Q)
      -∗ WP c (.op (.store (Memref.whole cc0_scratch0 : Memref sig .tc .vmem S4096x512 .bf16)
        (Rect.unit (s := S4096x512) ![0, 0] S4096x512.size inb) w Finset.univ hx hm) k) Q) := by
  have e : ((Memref.whole cc0_scratch0 : Memref sig .tc .vmem S4096x512 .bf16).access (Rect.unit (s := S4096x512) ![0, 0] S4096x512.size inb) : View sig .tc _ _ _).write (Elt F) f w Finset.univ = w :=
    Memref.write_access_unit_zero_univ (Elt F) cc0_scratch0 (zero2 ![0, 0] rfl) inb f w
  unfold bufP
  iintro H Hk
  iapply (wp_store 𝒱₀ (c : Thread nD τ) none Set.univ (m := (Memref.whole cc0_scratch0 : Memref sig .tc .vmem S4096x512 .bf16)) (r := (Rect.unit (s := S4096x512) ![0, 0] S4096x512.size inb)) (Mk := Finset.univ) (Finset.subset_univ _)) $$ H
  rw [e]; iexact Hk

/-- All eight rows of maxima, at any share. -/
theorem load_am (c : Dev nD) (q : PosShare TreeShare) (f : Vec F S8x128 .f32) {inb hl} {α : Type} {Q : α → sProp 𝕄}
    {k : Vec F S8x128 .f32 → Prog (TpuEff nD τ sig (Elt F) Λ₀ .tc) α} :
    iprop(((c : Thread nD τ).loc cc0_scratch3) ↦{q} f) ⊢ iprop((iprop(((c : Thread nD τ).loc cc0_scratch3) ↦{q} f) -∗ WP c (k f) Q)
      -∗ WP c (.op (.load (Memref.whole cc0_scratch3 : Memref sig .tc .vmem S8x128 .f32)
        (Rect.unit (s := S8x128) ![0, 0] S8x128.size inb).toLoadRect hl) k) Q) := by
  have e : (Memref.whole cc0_scratch3 : Memref sig .tc .vmem S8x128 .f32).view.readAt (Elt F) (Rect.unit (s := S8x128) ![0, 0] S8x128.size inb).toLoadRect f = f :=
    Memref.readAt_unit_zero (Elt F) cc0_scratch3 (zero2 ![0, 0] rfl) inb f
  iintro H Hk
  iapply (wp_load 𝒱₀ (c : Thread nD τ) none Set.univ (m := (Memref.whole cc0_scratch3 : Memref sig .tc .vmem S8x128 .f32)) (Finset.subset_univ _)) $$ H
  rw [e]; iexact Hk

/-! ## Pieces -/

/-- Column block `j` of the gathered rows, loaded. -/
theorem read_x (c : Dev nD) (j : Fin 8) {inb} :
    (Memref.whole cc0_scratch1 : Memref sig .tc .vmem S512x4096 .bf16).view.readAt (Elt F)
      (Rect.unit (s := S512x4096) ![0, 512 * j.val] S512x512.size inb).toLoadRect (xg m ρ c) = xr m ρ c j := by
  rw [View.readAt_rect]
  funext a
  show xg m ρ c ((colR j).emb a) = xr m ρ c j a
  have h0 : (a 0).val < 512 := (a 0).isLt
  have h1 : (a 1).val < 512 := (a 1).isLt
  have e0 : (((colR j).emb a) 0).val = 0 + 1 * (a 0).val := rfl
  have e1 : (((colR j).emb a) 1).val = 512 * j.val + 1 * (a 1).val := rfl
  unfold xg xr
  have hj : (⟨(((colR j).emb a) 1).val / 512, by rw [e1]; show _ < 8; omega⟩ : Dev nD) = j :=
    Fin.ext (by show (((colR j).emb a) 1).val / 512 = j.val; rw [e1]; omega)
  have hi : (ix2 (⟨512 * c.val + (((colR j).emb a) 0).val, by rw [e0]; have : c.val < 8 := c.isLt; omega⟩ : Fin 4096)
      (⟨(((colR j).emb a) 1).val % 512, Nat.mod_lt _ (by decide)⟩ : Fin 512))
      = ix2 (⟨512 * c.val + (a 0).val, by have : c.val < 8 := c.isLt; omega⟩ : Fin 4096) (⟨(a 1).val, (a 1).isLt⟩ : Fin 512) := by
    congr 1
    · exact Fin.ext (by show 512 * c.val + (((colR j).emb a) 0).val = _; rw [e0]; show 512 * c.val + (0 + 1 * (a 0).val) = 512 * c.val + (a 0).val; omega)
    · exact Fin.ext (by show (((colR j).emb a) 1).val % 512 = (a 1).val; rw [e1]; omega)
  rw [hi]
  exact congrArg (fun e => xb m ρ e _) hj

theorem load_x (c : Dev nD) (j : Fin 8) {o : Fin 2 → ℕ} (ho : o = ![0, 512 * j.val]) {inb hl} {α : Type} {Q : α → sProp 𝕄}
    {k : Vec F S512x512 .bf16 → Prog (TpuEff nD τ sig (Elt F) Λ₀ .tc) α} :
    xcol c j (xg m ρ c) ⊢ iprop((xcol c j (xg m ρ c) -∗ WP c (k (xr m ρ c j)) Q)
      -∗ WP c (.op (.load (Memref.whole cc0_scratch1 : Memref sig .tc .vmem S512x4096 .bf16)
        (Rect.unit (s := S512x4096) o S512x512.size inb).toLoadRect hl) k) Q) := by
  subst ho
  have e := read_x (F := F) m ρ c j (inb := inb)
  unfold xcol
  iintro H Hk
  iapply (wp_load 𝒱₀ (c : Thread nD τ) none Set.univ (m := (Memref.whole cc0_scratch1 : Memref sig .tc .vmem S512x4096 .bf16))
    (r := (Rect.unit (s := S512x4096) ![0, 512 * j.val] S512x512.size inb).toLoadRect) (S := (colR j).set)
    (by exact Finset.subset_of_eq (setOn_whole cc0_scratch1 _))) $$ H
  rw [e]; iexact Hk

/-- Row block `j` of the weights, loaded from slot `s`. -/
theorem read_w (c : Dev nD) (s : Fin 3) (j : Fin 8) {inb} :
    (Memref.whole cc0_scratch2 : Memref sig .tc .vmem S3x512x2048 .f32).view.readAt (Elt F)
      (Rect.unit (s := S3x512x2048) ![s.val, 0, 0] S1x512x2048.size inb).toLoadRect (ws m c j) = wr m c j := by
  rw [View.readAt_rect]
  funext a
  show ws m c j ((slotR s).emb a) = wr m c j a
  have e1 : (((slotR s).emb a) 1).val = 0 + 1 * (a 1).val := rfl
  have e2 : (((slotR s).emb a) 2).val = 0 + 1 * (a 2).val := rfl
  unfold ws wr
  refine congrArg (wv m c) ?_
  congr 1
  · exact Fin.ext (by show 512 * j.val + (((slotR s).emb a) 1).val = 512 * j.val + (a 1).val; rw [e1]; omega)
  · exact Fin.ext (by show (((slotR s).emb a) 2).val = (a 2).val; rw [e2]; omega)

theorem load_w (c : Dev nD) (s : Fin 3) (j : Fin 8) {o : Fin 3 → ℕ} (ho : o = ![s.val, 0, 0]) {inb hl} {α : Type} {Q : α → sProp 𝕄}
    {k : Vec F S1x512x2048 .f32 → Prog (TpuEff nD τ sig (Elt F) Λ₀ .tc) α} :
    wsl c s (ws m c j) ⊢ iprop((wsl c s (ws m c j) -∗ WP c (k (wr m c j)) Q)
      -∗ WP c (.op (.load (Memref.whole cc0_scratch2 : Memref sig .tc .vmem S3x512x2048 .f32)
        (Rect.unit (s := S3x512x2048) o S1x512x2048.size inb).toLoadRect hl) k) Q) := by
  subst ho
  have e := read_w (F := F) m c s j (inb := inb)
  unfold wsl
  iintro H Hk
  iapply (wp_load 𝒱₀ (c : Thread nD τ) none Set.univ (m := (Memref.whole cc0_scratch2 : Memref sig .tc .vmem S3x512x2048 .f32))
    (r := (Rect.unit (s := S3x512x2048) ![s.val, 0, 0] S1x512x2048.size inb).toLoadRect) (S := (slotR s).set)
    (by exact Finset.subset_of_eq (setOn_whole cc0_scratch2 _))) $$ H
  rw [e]; iexact Hk

/-- The device's own row block of its rounded array, loaded. -/
theorem load_own (c : Dev nD) (f) {o : Fin 2 → ℕ} (ho : o = ![512 * c.val, 0]) {inb hl} {α : Type} {Q : α → sProp 𝕄}
    {k : Vec F S512x512 .bf16 → Prog (TpuEff nD τ sig (Elt F) Λ₀ .tc) α} :
    xrow c c f ⊢ iprop((xrow c c f -∗ WP c (k (((View.whole cc0_scratch0).slice (rowR c)).read (Elt F) f)) Q)
      -∗ WP c (.op (.load (Memref.whole cc0_scratch0 : Memref sig .tc .vmem S4096x512 .bf16)
        (Rect.unit (s := S4096x512) o S512x512.size inb).toLoadRect hl) k) Q) := by
  subst ho
  have e : (Memref.whole cc0_scratch0 : Memref sig .tc .vmem S4096x512 .bf16).view.readAt (Elt F)
      (Rect.unit (s := S4096x512) ![512 * c.val, 0] S512x512.size inb).toLoadRect f = ((View.whole cc0_scratch0).slice (rowR c)).read (Elt F) f := by
    rw [View.readAt_rect]
  unfold xrow
  iintro H Hk
  iapply (wp_load 𝒱₀ (c : Thread nD τ) none Set.univ (m := (Memref.whole cc0_scratch0 : Memref sig .tc .vmem S4096x512 .bf16))
    (r := (Rect.unit (s := S4096x512) ![512 * c.val, 0] S512x512.size inb).toLoadRect) (S := (rowR c).set)
    (by exact Finset.subset_of_eq (setOn_whole cc0_scratch0 _))) $$ H
  rw [e]; iexact Hk

/-- A load whose value nothing reads. -/
theorem load_col_any (c : Dev nD) (j : Fin 8) (f) {o : Fin 2 → ℕ} (ho : o = ![0, 512 * j.val]) {inb hl} {α : Type} {Q : α → sProp 𝕄}
    {k : Vec F S512x512 .bf16 → Prog (TpuEff nD τ sig (Elt F) Λ₀ .tc) α} :
    xcol c j f ⊢ iprop((iprop(∀ v, xcol c j f -∗ WP c (k v) Q))
      -∗ WP c (.op (.load (Memref.whole cc0_scratch1 : Memref sig .tc .vmem S512x4096 .bf16)
        (Rect.unit (s := S512x4096) o S512x512.size inb).toLoadRect hl) k) Q) := by
  subst ho
  unfold xcol
  iintro H Hk
  iapply (wp_load 𝒱₀ (c : Thread nD τ) none Set.univ (m := (Memref.whole cc0_scratch1 : Memref sig .tc .vmem S512x4096 .bf16))
    (r := (Rect.unit (s := S512x4096) ![0, 512 * j.val] S512x512.size inb).toLoadRect) (S := (colR j).set)
    (by exact Finset.subset_of_eq (setOn_whole cc0_scratch1 _))) $$ H
  iapply Hk

/-- The device's own block stored in its own column block. -/
theorem store_own (c : Dev nD) (f) {o : Fin 2 → ℕ} (ho : o = ![0, 512 * c.val]) {inb hx hm} {α : Type} {Q : α → sProp 𝕄}
    {k : PUnit → Prog (TpuEff nD τ sig (Elt F) Λ₀ .tc) α} :
    xcol c c f ⊢ iprop((xcol c c (xg m ρ c) -∗ WP c (k ⟨⟩) Q)
      -∗ WP c (.op (.store (Memref.whole cc0_scratch1 : Memref sig .tc .vmem S512x4096 .bf16)
        (Rect.unit (s := S512x4096) o S512x512.size inb) (k0_pay3 (((View.whole cc0_scratch0).slice (rowR c)).read (Elt F) (xb m ρ c))) Finset.univ hx hm) k) Q) := by
  subst ho
  have e := pointsTo_congr (Ix := Unit) (Name := ℕ) (U := UU) (Lvl := ℕ) (ℓ := (c : Thread nD τ).loc cc0_scratch1) (q := fullShare) (store_x m ρ c f)
  unfold xcol
  iintro H Hk
  iapply (wp_store 𝒱₀ (c : Thread nD τ) none Set.univ (m := (Memref.whole cc0_scratch1 : Memref sig .tc .vmem S512x4096 .bf16))
    (r := (Rect.unit (s := S512x4096) ![0, 512 * c.val] S512x512.size inb)) (Mk := Finset.univ) (S := (colR c).set)
    (by exact Finset.subset_of_eq (View.set_slice_whole cc0_scratch1 (colR c)))) $$ H
  iintro H
  iapply Hk
  iapply (Entails.of_eq e); iexact H

theorem load_row_any (c : Dev nD) (f) {o : Fin 2 → ℕ} (ho : o = ![c.val, 0]) {inb hl} {α : Type} {Q : α → sProp 𝕄}
    {k : Vec F S1x128 .f32 → Prog (TpuEff nD τ sig (Elt F) Λ₀ .tc) α} :
    amr c c fullShare f ⊢ iprop((iprop(∀ v, amr c c fullShare f -∗ WP c (k v) Q))
      -∗ WP c (.op (.load (Memref.whole cc0_scratch3 : Memref sig .tc .vmem S8x128 .f32)
        (Rect.unit (s := S8x128) o S1x128.size inb).toLoadRect hl) k) Q) := by
  subst ho
  unfold amr
  iintro H Hk
  iapply (wp_load 𝒱₀ (c : Thread nD τ) none Set.univ (m := (Memref.whole cc0_scratch3 : Memref sig .tc .vmem S8x128 .f32))
    (r := (Rect.unit (s := S8x128) ![c.val, 0] S1x128.size inb).toLoadRect) (S := (amR c).set)
    (by exact Finset.subset_of_eq (setOn_whole cc0_scratch3 _))) $$ H
  iapply Hk

/-- The device's row of maxima stored. -/
theorem store_row (c : Dev nD) (f) {o : Fin 2 → ℕ} (ho : o = ![c.val, 0]) {w : Vec F S1x128 .f32} (hw : w = amrow m ρ c) {inb hx hm} {α : Type} {Q : α → sProp 𝕄}
    {k : PUnit → Prog (TpuEff nD τ sig (Elt F) Λ₀ .tc) α} :
    amr c c fullShare f ⊢ iprop((amr c c fullShare (am m ρ) -∗ WP c (k ⟨⟩) Q)
      -∗ WP c (.op (.store (Memref.whole cc0_scratch3 : Memref sig .tc .vmem S8x128 .f32)
        (Rect.unit (s := S8x128) o S1x128.size inb) w Finset.univ hx hm) k) Q) := by
  subst ho hw
  have e := pointsTo_congr (Ix := Unit) (Name := ℕ) (U := UU) (Lvl := ℕ) (ℓ := (c : Thread nD τ).loc cc0_scratch3) (q := fullShare) (store_am m ρ c f)
  unfold amr
  iintro H Hk
  iapply (wp_store 𝒱₀ (c : Thread nD τ) none Set.univ (m := (Memref.whole cc0_scratch3 : Memref sig .tc .vmem S8x128 .f32))
    (r := (Rect.unit (s := S8x128) ![c.val, 0] S1x128.size inb)) (Mk := Finset.univ) (S := (amR c).set)
    (by exact Finset.subset_of_eq (View.set_slice_whole cc0_scratch3 (amR c)))) $$ H
  iintro H
  iapply Hk
  iapply (Entails.of_eq e); iexact H

end Cert.Run

end
-- ==== Proof.At.lean ====
/- The kernel's steps again, each with what it uses and leaves bundled by its place around the eight devices, and the
   kernel's parts named at its own buffers. -/
module

public import proofs.«01_k».proof.Proof.Access

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 36 → ℕ)

/-! ## The parts at the kernel's buffers and semaphores -/

abbrev P1 := k0_part1 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P2 := k0_part2 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P3 := k0_part3 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P4 := k0_part4 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P5 := k0_part5 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P6 := k0_part6 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P7 := k0_part7 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P8 := k0_part8 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P9 := k0_part9 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P10 := k0_part10 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P11 := k0_part11 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P12 := k0_part12 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P13 := k0_part13 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P14 := k0_part14 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P15 := k0_part15 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P16 := k0_part16 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev P17 := k0_part17 (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8
abbrev Pbody := cc0_body (F := F) (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8

/-! ## What a step uses, by its place around the eight devices -/

/-- The device's number as the kernel computes it. -/
def place (c : Dev nD) : BitVec 32 := Scalar.remsi (Scalar.divsi (Dev.word c) 1#32) 8#32

/-- The runtime's barrier semaphore as the kernel names it. -/
abbrev barS : Sems sig S_ := SemArray.scalar (sig.barrier 0 rfl)

/-- The device `r` places before `c`. -/
def pv (c : Dev nD) (r : ℕ) : Dev nD := ⟨(c.val + (8 - r)) % 8, Nat.mod_lt _ (by decide)⟩

theorem nx_ne (c : Dev nD) {r : ℕ} (h0 : 0 < r) (h8 : r < 8) : c ≠ nx c r := fun e => by
  have h := congrArg Fin.val e
  have hc : c.val < 8 := c.isLt
  have h' : c.val = (c.val + r) % 8 := h
  omega
theorem pv_ne (c : Dev nD) {r : ℕ} (h0 : 0 < r) (h8 : r < 8) : pv c r ≠ c := fun e => by
  have h := congrArg Fin.val e
  have hc : c.val < 8 := c.isLt
  have h' : (c.val + (8 - r)) % 8 = c.val := h
  omega
theorem sub_nx (c : Dev nD) {r : ℕ} (h0 : 0 < r) (h8 : r < 8) : (nx c r - c).val - 1 = r - 1 := by
  have h : ∀ (c : Fin 8) (r : Fin 8), (nx c r.val - c).val = r.val := by decide
  rw [h c ⟨r, h8⟩]

theorem oweD_bar (c : Dev nD) {i r : ℕ} (h : i + r = 21) (h0 : 0 < r) (h8 : r < 8) : oweD c i = nx c r := by
  unfold oweD; rw [if_neg (by omega), if_neg (by omega), show 21 - i = r by omega]
theorem oweK_bar (c : Dev nD) {i r : ℕ} (h : i + r = 21) (h0 : 0 < r) (h8 : r < 8) : oweK c i = .bar := by
  unfold oweK; rw [if_neg (by omega), if_neg (by omega)]
theorem oweD_rcv (c : Dev nD) {i r : ℕ} (h : i + r = 14) (h0 : 0 < r) (h8 : r < 8) : oweD c i = nx c r := by
  unfold oweD; rw [if_neg (by omega), if_pos (by omega), show 14 - i = r by omega]
theorem oweK_rcv (c : Dev nD) {i r : ℕ} (h : i + r = 14) (h0 : 0 < r) (h8 : r < 8) : oweK c i = .rcv c := by
  unfold oweK; rw [if_neg (by omega), if_pos (by omega)]
theorem oweD_arc (c : Dev nD) {i r : ℕ} (h : i + r = 7) (h0 : 0 < r) (h8 : r < 8) : oweD c i = nx c r := by
  unfold oweD; rw [if_pos (by omega), show 7 - i = r by omega]
theorem oweK_arc (c : Dev nD) {i r : ℕ} (h : i + r = 7) (h0 : 0 < r) (h8 : r < 8) : oweK c i = .arc c := by
  unfold oweK; rw [if_pos (by omega)]

/-- For the signal `r` places on: its duty and the pieces it hands over. -/
def sigT (c : Dev nD) (r : ℕ) : sProp 𝕄 := iprop(dutyTok ER (cell (nx c r) .bar) 0 c ∗ barPay (nx c r) c)
/-- For the data send `r` places on: its duties and the column block it lands in. -/
def sendT (c : Dev nD) (r : ℕ) : sProp 𝕄 :=
  iprop(dutyTok ER (cell c (.snd (nx c r))) 0 c ∗ dutyTok ER (cell (nx c r) (.rcv c)) 0 c ∗ ∃ f, xcol (nx c r) c f)
/-- The credit for having sent it. -/
def sentT (c : Dev nD) (r : ℕ) : sProp 𝕄 := cred (tallyAt (cell c (.snd (nx c r))) () N1)
/-- For the send of the maxima `r` places on: its duties and the row it lands in. -/
def amaxT (c : Dev nD) (r : ℕ) : sProp 𝕄 :=
  iprop(dutyTok ER (cell c (.asd (nx c r))) 0 c ∗ dutyTok ER (cell (nx c r) (.arc c)) 0 c ∗ ∃ f, amr (nx c r) c fullShare f)
/-- The credit for having sent them. -/
def amS (c : Dev nD) (r : ℕ) : sProp 𝕄 := cred (tallyAt (cell c (.asd (nx c r))) () N2)
/-- The rounded row block that goes `r` places on. -/
def xbr (c : Dev nD) (r : ℕ) : sProp 𝕄 := xrow c (nx c r) (xb m ρ c)

/-- A weight slot between copies, with its `r`-th copy to come; with it under way; with it landed. -/
def wIdle (c : Dev nD) (s : Fin 3) (r : ℕ) : sProp 𝕄 :=
  iprop(atPos ER (cell c (.w s)) r ∅ 0 ∗ reached ER (cell c (.w s)) r ∗ ∃ f, wsl c s f)
def wBusy (c : Dev nD) (s : Fin 3) (r : ℕ) : sProp 𝕄 :=
  iprop(atPos ER (cell c (.w s)) r ∅ 0 ∗ cred (tallyAt (cell c (.w s)) () N3))
def wFull (c : Dev nD) (s : Fin 3) (r : ℕ) (j : Fin 8) : sProp 𝕄 :=
  iprop((atPos ER (cell c (.w s)) (r + 1) ∅ 0 ∗ reached ER (cell c (.w s)) (r + 1)) ∗ wsl c s (ws m c j))
def wtok (c : Dev nD) (s : Fin 3) (r : ℕ) : sProp 𝕄 := dutyTok ER (cell c (.w s)) r c

/-- Column block `j` before its wait and after. -/
def rWait (c : Dev nD) (j : Fin 8) : sProp 𝕄 := iprop(rIn m ρ c j ∗ atPos ER (cell c (.rcv j)) 0 ∅ 0)
def rDone (c : Dev nD) (j : Fin 8) : sProp 𝕄 := iprop(semVal (cell c (.rcv j)) 0 ∗ xcol c j (xg m ρ c))

/-- The row of maxima from `r` places back, before its wait and after. -/
def aWait (c : Dev nD) (r : ℕ) : sProp 𝕄 :=
  iprop(cred (tallyAt (cell c (.arc (pv c r))) () N2) ∗ atPos ER (cell c (.arc (pv c r))) 0 ∅ 0)
def aDone (c : Dev nD) (r : ℕ) : sProp 𝕄 := iprop(semVal (cell c (.arc (pv c r))) 0 ∗ amr c (pv c r) fullShare (am m ρ))

/-- A finished data send, its row block back; a finished send of maxima, its share back. -/
def sDone (c : Dev nD) (r : ℕ) : sProp 𝕄 := iprop(semVal (cell c (.snd (nx c r))) 0 ∗ xbr m ρ c r)
def bDone (c : Dev nD) (r : ℕ) : sProp 𝕄 := iprop(semVal (cell c (.asd (nx c r))) 0 ∗ amr c c (lend (r - 1)) (am m ρ))

/-! ## The steps at these -/

section At
variable (c : Dev nD)

theorem sig_at (r i : ℕ) (hi : i + r = 21) (h0 : 0 < r) (h8 : r < 8) {n' : Dev nD} (hn' : n' = nx c r) {x : ℤ} (hx : x = 1)
    {α : Type} {Q : α → sProp 𝕄} {k : PUnit → Prog (TpuEff nD τ sig (Elt F) Λ₀ .tc) α} :
    iprop(ctx m ρ K ∗ owing c (i + 1) ∗ sigT c r)
      ⊢ iprop((owing c i -∗ WP c (k ⟨⟩) Q) -∗ WP c (.op (.semSignal (Dev.tc n' : Thread nD τ) barrier0 x) k) Q) := by
  unfold sigT
  exact signal_step m ρ K c (nx c r) i (oweD_bar c hi h0 h8) (oweK_bar c hi h0 h8) (nx_ne c h0 h8) hn' hx

theorem send_at (r i : ℕ) (hi : i + r = 14) (h0 : 0 < r) (h8 : r < 8)
    {o3 o4 : Fin 2 → ℕ} (h3 : o3 = ![0, 512 * c.val]) (h4 : o4 = ![512 * (nx c r).val, 0]) {inb3 inb4 e3 e4}
    {n' : Dev nD} (hn' : n' = nx c r) {sS sR : SemLoc sig} (hS : sS = csem (idx (.snd (nx c r)))) (hR : sR = csem (idx (.rcv c))) {hsc hsrc hdst hsem}
    {α : Type} {Q : α → sProp 𝕄} {k : PUnit → Prog (TpuEff nD τ sig (Elt F) Λ₀ .tc) α} :
    iprop(ctx m ρ K ∗ owing c (i + 1) ∗ sendT c r ∗ xbr m ρ c r)
      ⊢ iprop((owing c i ∗ sentT c r -∗ WP c (k ⟨⟩) Q)
          -∗ WP c (.op (.enqueueDma (((Memref.whole cc0_scratch0).slice (Rect.unit (s := S4096x512) o4 S512x512.size inb4) e4 : Memref sig .tc .vmem S512x512 .bf16))
            (.remote (Dev.tc n' : Thread nD τ) ((Memref.whole cc0_scratch1).slice (Rect.unit (s := S512x4096) o3 S512x512.size inb3) e3 : Memref sig .tc .vmem S512x512 .bf16) sS hsc) sR hsrc hdst hsem) k) Q) := by
  unfold sendT xbr sentT
  iintro ⟨#HC, HO, ⟨Ht1, Ht2, Hd⟩, Hs⟩ Hk
  iapply (send_step m ρ K c (nx c r) i (oweD_rcv c hi h0 h8) (oweK_rcv c hi h0 h8) (nx_ne c h0 h8) h3 h4 hn' hS hR) $$ [HO Ht1 Ht2 Hd Hs]
  · isplitr; · iexact HC
    isplitl [HO]; · iexact HO
    isplitl [Ht1]; · iexact Ht1
    isplitl [Ht2]; · iexact Ht2
    isplitl [Hs] <;> iassumption
  iexact Hk

theorem amax_at (r i : ℕ) (hi : i + (r + 1) = 7) (h8 : r + 1 < 8)
    {o o' : Fin 2 → ℕ} (h3 : o = ![c.val, 0]) (h4 : o' = ![c.val, 0]) {inb inb' e e'}
    {n' : Dev nD} (hn' : n' = nx c (r + 1)) {sS sR : SemLoc sig} (hS : sS = csem (idx (.asd (nx c (r + 1))))) (hR : sR = csem (idx (.arc c))) {hsc hsrc hdst hsem}
    {α : Type} {Q : α → sProp 𝕄} {k : PUnit → Prog (TpuEff nD τ sig (Elt F) Λ₀ .tc) α} :
    iprop(ctx m ρ K ∗ owing c (i + 1) ∗ amaxT c (r + 1) ∗ amr c c (keep r) (am m ρ))
      ⊢ iprop((owing c i ∗ amr c c (keep (r + 1)) (am m ρ) ∗ amS c (r + 1) -∗ WP c (k ⟨⟩) Q)
          -∗ WP c (.op (.enqueueDma (((Memref.whole cc0_scratch3).slice (Rect.unit (s := S8x128) o S1x128.size inb) e : Memref sig .tc .vmem S1x128 .f32))
            (.remote (Dev.tc n' : Thread nD τ) ((Memref.whole cc0_scratch3).slice (Rect.unit (s := S8x128) o' S1x128.size inb') e' : Memref sig .tc .vmem S1x128 .f32) sS hsc) sR hsrc hdst hsem) k) Q) := by
  unfold amaxT amS
  iintro ⟨#HC, HO, ⟨Ht1, Ht2, Hd⟩, Hs⟩ Hk
  iapply (amax_step m ρ K c (nx c (r + 1)) i r (oweD_arc c hi (Nat.succ_pos r) h8) (oweK_arc c hi (Nat.succ_pos r) h8) (nx_ne c (Nat.succ_pos r) h8)
    (sub_nx c (Nat.succ_pos r) h8) h3 h4 hn' hS hR) $$ [HO Ht1 Ht2 Hd Hs]
  · isplitr; · iexact HC
    isplitl [HO]; · iexact HO
    isplitl [Ht1]; · iexact Ht1
    isplitl [Ht2]; · iexact Ht2
    isplitl [Hs] <;> iassumption
  iexact Hk

theorem copy_at (s : Fin 3) (r : ℕ) (j : Fin 8) (hj : wj s r = j) (hsr : 3 * r + s.val < 8)
    {o1 : Fin 2 → ℕ} {o5 : Fin 3 → ℕ} (h1 : o1 = ![512 * j.val, 0]) (h5 : o5 = ![s.val, 0, 0]) {inb1 inb5 e1 e5 e5'}
    {sR : SemLoc sig} (hR : sR = csem (idx (.w s))) {hsrc hdst hsem}
    {α : Type} {Q : α → sProp 𝕄} {k : PUnit → Prog (TpuEff nD τ sig (Elt F) Λ₀ .tc) α} :
    iprop(ctx m ρ K ∗ wIdle c s r ∗ wtok c s r ∗ wrow m c j)
      ⊢ iprop((wBusy c s r -∗ WP c (k ⟨⟩) Q)
          -∗ WP c (.op (.enqueueDma (((Memref.whole main_arg1).slice (Rect.unit (s := S4096x2048) o1 S512x2048.size inb1) e1 : Memref sig .tc .hbm S512x2048 .f32))
            (.here (((Memref.whole cc0_scratch2).slice (Rect.unit (s := S3x512x2048) o5 S1x512x2048.size inb5) e5).squeeze S512x2048 e5' : Memref sig .tc .vmem S512x2048 .f32))
            sR hsrc hdst hsem) k) Q) := by
  subst hj
  unfold wIdle wBusy wtok
  iintro ⟨#HC, ⟨Ha, Hr, Hd⟩, Ht, Hs⟩ Hk
  iapply (copy_step m ρ K c s r hsr h1 h5 hR) $$ [Ht Hr Hd Hs]
  · isplitr; · iexact HC
    isplitl [Ht]; · iexact Ht
    isplitl [Hr]; · iexact Hr
    isplitl [Hs] <;> iassumption
  iintro Hc
  iapply Hk
  isplitl [Ha] <;> iassumption

theorem wwait_at (n : ℕ) (s : Fin 3) (r : ℕ) (j : Fin 8) (hj : wj s r = j) (hsr : 3 * r + s.val < 8) (hn : n ≤ 14)
    {q : DmaSem sig} (hq : SemLoc.dma q = csem (idx (.w s)))
    {sp sp' : Space} {s1 s' : Shape} {e e' : EltTy} {src : Memref sig .tc sp' s' e'} {κ' : Kind} {dst : Memref sig κ' sp s1 e}
    {hsrc : src.view.WordExact} {hdst : dst.view.WordExact} (hN : dst.view.dmaCredit = N3)
    {α : Type} {Q : α → sProp 𝕄} {k : PUnit → Prog (TpuEff nD τ sig (Elt F) Λ₀ .tc) α} :
    iprop(ctx m ρ K ∗ owing c n ∗ wBusy c s r)
      ⊢ iprop((owing c n ∗ wFull m c s r j ∗ wrow m c j -∗ WP c (k ⟨⟩) Q) -∗ WP c (.op (.waitDma2 q src dst hsrc hdst) k) Q) := by
  subst hj
  unfold wBusy wFull
  iintro ⟨#HC, HO, Ha, Hc⟩ Hk
  iapply (wait_step m ρ K c (w_ne s) r n (duty_w hsr) (by
      intro i hi; show 0 < lvK (oweK c i); unfold oweK; rcases lt_or_ge i 7 with h | h
      · rw [if_pos h]; exact Nat.succ_pos 2
      · rw [if_neg (by omega), if_pos (by omega)]; exact Nat.succ_pos 1) hq hN) $$ [HO Ha Hc]
  · isplitr; · iexact HC
    isplitl [Hc]; · iexact Hc
    isplitl [HO] <;> iassumption
  iintro ⟨HO, Ha, Hr, Hp⟩
  ihave Hp := (Entails.of_eq (pay_w m ρ c s r)) $$ Hp
  unfold wPay
  icases Hp with ⟨Hw, Hs⟩
  iapply Hk
  isplitl [HO]; · iexact HO
  isplitl [Ha Hr Hw]
  · isplitl [Ha Hr]
    · isplitl [Ha] <;> iassumption
    iexact Hw
  iexact Hs

theorem load_wAt (s : Fin 3) (r : ℕ) (j : Fin 8) {o : Fin 3 → ℕ} (ho : o = ![s.val, 0, 0]) {inb hl} {α : Type} {Q : α → sProp 𝕄}
    {k : Vec F S1x512x2048 .f32 → Prog (TpuEff nD τ sig (Elt F) Λ₀ .tc) α} :
    wFull m c s r j ⊢ iprop((wFull m c s r j -∗ WP c (k (wr m c j)) Q)
      -∗ WP c (.op (.load (Memref.whole cc0_scratch2 : Memref sig .tc .vmem S3x512x2048 .f32)
        (Rect.unit (s := S3x512x2048) o S1x512x2048.size inb).toLoadRect hl) k) Q) := by
  unfold wFull
  iintro ⟨Ha, Hw⟩ Hk
  iapply (load_w m c s j ho) $$ Hw
  iintro Hw
  iapply Hk
  isplitl [Ha] <;> iassumption

/-- A slot whose block has been read is free for its next copy. -/
theorem wFull_idle (s : Fin 3) (r : ℕ) (j : Fin 8) : wFull (F := F) m c s r j ⊢ wIdle c s (r + 1) := by
  unfold wFull wIdle
  iintro ⟨⟨Ha, Hr⟩, Hw⟩
  isplitl [Ha]; · iexact Ha
  isplitl [Hr]; · iexact Hr
  iexists _; iexact Hw

theorem load_xAt (j : Fin 8) {o : Fin 2 → ℕ} (ho : o = ![0, 512 * j.val]) {inb hl} {α : Type} {Q : α → sProp 𝕄}
    {k : Vec F S512x512 .bf16 → Prog (TpuEff nD τ sig (Elt F) Λ₀ .tc) α} :
    rDone m ρ c j ⊢ iprop((rDone m ρ c j -∗ WP c (k (xr m ρ c j)) Q)
      -∗ WP c (.op (.load (Memref.whole cc0_scratch1 : Memref sig .tc .vmem S512x4096 .bf16)
        (Rect.unit (s := S512x4096) o S512x512.size inb).toLoadRect hl) k) Q) := by
  unfold rDone
  iintro ⟨Ha, Hw⟩ Hk
  iapply (load_x m ρ c j ho) $$ Hw
  iintro Hw
  iapply Hk
  isplitl [Ha] <;> iassumption

/-- The kernel's test that a turn's block is another device's. -/
theorem test_iff (j : Fin 8) : Iff (Scalar.cmpi .ne (Scalar.extui (Scalar.cmpi .ne (place c) (BitVec.ofNat 32 j.val))) 0#32 = 1#1) (c ≠ j) := by
  revert c j; decide +kernel

/-- The wait for column block `j` inside a longer program. -/
theorem cond_at (j : Fin 8) {P : Prop} [Decidable P] (hP : Iff P (c ≠ j)) {q : DmaSem sig} (hq : SemLoc.dma q = csem (idx (.rcv j)))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N1)
    {α : Type} {Q : α → sProp 𝕄} {k : PUnit → Prog (TpuEff nD τ sig (Elt F) Λ₀ .tc) α} :
    iprop(ctx m ρ K ∗ owing c 7 ∗ rWait m ρ c j)
      ⊢ iprop((owing c 7 ∗ rDone m ρ c j -∗ WP c (k ⟨⟩) Q)
          -∗ WP c ((if h : P then (.op (.waitDma2 q src dst hsrc hdst) fun _ => .ret ⟨⟩) else .ret ⟨⟩) >>= k) Q) := by
  unfold WP
  rw [wp_bind]
  unfold rWait rDone
  iintro ⟨#HC, HO, Hr, Ha⟩ Hk
  iapply (cond_step m ρ K c j hP hq hN (hsrc := hsrc) (hdst := hdst)) $$ [HO Hr Ha]
  · isplitr; · iexact HC
    isplitl [Hr]; · iexact Hr
    isplitl [HO] <;> iassumption
  iintro ⟨HO, Hz, Hx⟩
  iapply Hk
  isplitl [HO]; · iexact HO
  isplitl [Hz] <;> iassumption

theorem await_at (r : ℕ) (h0 : 0 < r) (h8 : r < 8) {q : DmaSem sig} (hq : SemLoc.dma q = csem (idx (.arc (pv c r))))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N2)
    {α : Type} {Q : α → sProp 𝕄} {k : PUnit → Prog (TpuEff nD τ sig (Elt F) Λ₀ .tc) α} :
    iprop(ctx m ρ K ∗ owing c 0 ∗ aWait c r)
      ⊢ iprop((owing c 0 ∗ aDone m ρ c r -∗ WP c (k ⟨⟩) Q) -∗ WP c (.op (.waitDma2 q src dst hsrc hdst) k) Q) := by
  unfold aWait aDone
  iintro ⟨#HC, HO, Hc, Ha⟩ Hk
  iapply (wait_last m ρ K c (arc_ne (pv c r)) 0 (duty_arc (pv_ne c h0 h8)) (dutyN_arc c _) (fun i hi => absurd hi (Nat.not_lt_zero i)) hq hN) $$ [HO Hc Ha]
  · isplitr; · iexact HC
    isplitl [Hc]; · iexact Hc
    isplitl [HO] <;> iassumption
  iintro ⟨HO, Hz, Hp⟩
  iapply Hk
  isplitl [HO]; · iexact HO
  isplitl [Hz]; · iexact Hz
  iapply (Entails.of_eq (pay_arc m ρ c (pv c r))); iexact Hp

theorem swait_at (r : ℕ) (h0 : 0 < r) (h8 : r < 8) {q : DmaSem sig} (hq : SemLoc.dma q = csem (idx (.snd (nx c r))))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N1)
    {α : Type} {Q : α → sProp 𝕄} {k : PUnit → Prog (TpuEff nD τ sig (Elt F) Λ₀ .tc) α} :
    iprop(ctx m ρ K ∗ owing c 0 ∗ sentT c r ∗ atPos ER (cell c (.snd (nx c r))) 0 ∅ 0)
      ⊢ iprop((owing c 0 ∗ sDone m ρ c r -∗ WP c (k ⟨⟩) Q) -∗ WP c (.op (.waitDma2 q src dst hsrc hdst) k) Q) := by
  unfold sentT sDone xbr
  iintro ⟨#HC, HO, Hc, Ha⟩ Hk
  iapply (wait_last m ρ K c (snd_ne (nx c r)) 0 (duty_snd (Ne.symm (nx_ne c h0 h8))) (dutyN_snd c _) (fun i hi => absurd hi (Nat.not_lt_zero i)) hq hN) $$ [HO Hc Ha]
  · isplitr; · iexact HC
    isplitl [Hc]; · iexact Hc
    isplitl [HO] <;> iassumption
  iintro ⟨HO, Hz, Hp⟩
  iapply Hk
  isplitl [HO]; · iexact HO
  isplitl [Hz]; · iexact Hz
  iapply (Entails.of_eq (pay_snd m ρ c (nx c r))); iexact Hp

theorem bwait_at (r : ℕ) (h0 : 0 < r) (h8 : r < 8) {q : DmaSem sig} (hq : SemLoc.dma q = csem (idx (.asd (nx c r))))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N2)
    {α : Type} {Q : α → sProp 𝕄} {k : PUnit → Prog (TpuEff nD τ sig (Elt F) Λ₀ .tc) α} :
    iprop(ctx m ρ K ∗ owing c 0 ∗ amS c r ∗ atPos ER (cell c (.asd (nx c r))) 0 ∅ 0)
      ⊢ iprop((owing c 0 ∗ bDone m ρ c r -∗ WP c (k ⟨⟩) Q) -∗ WP c (.op (.waitDma2 q src dst hsrc hdst) k) Q) := by
  unfold amS bDone
  iintro ⟨#HC, HO, Hc, Ha⟩ Hk
  iapply (wait_last m ρ K c (asd_ne (nx c r)) 0 (duty_asd (Ne.symm (nx_ne c h0 h8))) (dutyN_asd c _) (fun i hi => absurd hi (Nat.not_lt_zero i)) hq hN) $$ [HO Hc Ha]
  · isplitr; · iexact HC
    isplitl [Hc]; · iexact Hc
    isplitl [HO] <;> iassumption
  iintro ⟨HO, Hz, Hp⟩
  iapply Hk
  isplitl [HO]; · iexact HO
  isplitl [Hz]; · iexact Hz
  iapply (Entails.of_eq (pay_asd m ρ c (nx c r) (r - 1) (sub_nx c h0 h8))); iexact Hp

end At

end Cert.Run

end
-- ==== Proof.Split.lean ====
/- A device's scratch buffers cut into the blocks that move, and put together again; and a family over the devices
   listed from one device round the ring. -/
module

public import Idealize.ShloMosaic.Lib.Ring
public import proofs.«01_k».proof.Proof.At

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The blocks of each buffer: apart, and covering it -/

theorem col_disj (a b : Fin 8) (h : a ≠ b) : Disjoint (colR a).set (colR b).set :=
  Ring.lead_disjoint (s := S512x4096) (off := fun b : Fin 8 => ![0, 512 * b.val]) (size := S512x512.size) (inb := colInb) (a₀ := (1 : Fin 2)) (R := 512) (hoff₀ := fun b => by rfl) (hsz₀ := rfl) a b h
theorem col_cover : (Finset.univ : Finset (Fin 8)).biUnion (fun b => (colR b).set) = Finset.univ :=
  Ring.lead_cover (s := S512x4096) (off := fun b : Fin 8 => ![0, 512 * b.val]) (size := S512x512.size) (inb := colInb) (a₀ := (1 : Fin 2)) (R := 512) (hoff₀ := fun b => by rfl)
    (hoff := fun b a h => by fin_cases a <;> first | exact absurd rfl h | rfl) (hsz₀ := rfl) (hsz := fun a h => by fin_cases a <;> first | exact absurd rfl h | rfl) rfl

theorem row_disj (a b : Fin 8) (h : a ≠ b) : Disjoint (rowR a).set (rowR b).set :=
  Ring.lead_disjoint (s := S4096x512) (off := fun b : Fin 8 => ![512 * b.val, 0]) (size := S512x512.size) (inb := rowInb) (a₀ := (0 : Fin 2)) (R := 512) (hoff₀ := fun b => by rfl) (hsz₀ := rfl) a b h
theorem row_cover : (Finset.univ : Finset (Fin 8)).biUnion (fun b => (rowR b).set) = Finset.univ :=
  Ring.lead_cover (s := S4096x512) (off := fun b : Fin 8 => ![512 * b.val, 0]) (size := S512x512.size) (inb := rowInb) (a₀ := (0 : Fin 2)) (R := 512) (hoff₀ := fun b => by rfl)
    (hoff := fun b a h => by fin_cases a <;> first | exact absurd rfl h | rfl) (hsz₀ := rfl) (hsz := fun a h => by fin_cases a <;> first | exact absurd rfl h | rfl) rfl

theorem wrow_disj (a b : Fin 8) (h : a ≠ b) : Disjoint (wrowR a).set (wrowR b).set :=
  Ring.lead_disjoint (s := S4096x2048) (off := fun b : Fin 8 => ![512 * b.val, 0]) (size := S512x2048.size) (inb := wrowInb) (a₀ := (0 : Fin 2)) (R := 512) (hoff₀ := fun b => by rfl) (hsz₀ := rfl) a b h
theorem wrow_cover : (Finset.univ : Finset (Fin 8)).biUnion (fun b => (wrowR b).set) = Finset.univ :=
  Ring.lead_cover (s := S4096x2048) (off := fun b : Fin 8 => ![512 * b.val, 0]) (size := S512x2048.size) (inb := wrowInb) (a₀ := (0 : Fin 2)) (R := 512) (hoff₀ := fun b => by rfl)
    (hoff := fun b a h => by fin_cases a <;> first | exact absurd rfl h | rfl) (hsz₀ := rfl) (hsz := fun a h => by fin_cases a <;> first | exact absurd rfl h | rfl) rfl

theorem am_disj (a b : Fin 8) (h : a ≠ b) : Disjoint (amR a).set (amR b).set :=
  Ring.lead_disjoint (s := S8x128) (off := fun b : Fin 8 => ![b.val, 0]) (size := S1x128.size) (inb := amInb) (a₀ := (0 : Fin 2)) (R := 1) (hoff₀ := fun b => by rw [Nat.one_mul]; rfl) (hsz₀ := rfl) a b h
theorem am_cover : (Finset.univ : Finset (Fin 8)).biUnion (fun b => (amR b).set) = Finset.univ :=
  Ring.lead_cover (s := S8x128) (off := fun b : Fin 8 => ![b.val, 0]) (size := S1x128.size) (inb := amInb) (a₀ := (0 : Fin 2)) (R := 1) (hoff₀ := fun b => by rw [Nat.one_mul]; rfl)
    (hoff := fun b a h => by fin_cases a <;> first | exact absurd rfl h | rfl) (hsz₀ := rfl) (hsz := fun a h => by fin_cases a <;> first | exact absurd rfl h | rfl) rfl

theorem slot_disj (a b : Fin 3) (h : a ≠ b) : Disjoint (slotR a).set (slotR b).set :=
  Ring.lead_disjoint (s := S3x512x2048) (off := fun b : Fin 3 => ![b.val, 0, 0]) (size := S1x512x2048.size) (inb := slotInb) (a₀ := (0 : Fin 3)) (R := 1) (hoff₀ := fun b => by rw [Nat.one_mul]; rfl) (hsz₀ := rfl) a b h
theorem slot_cover : (Finset.univ : Finset (Fin 3)).biUnion (fun b => (slotR b).set) = Finset.univ :=
  Ring.lead_cover (s := S3x512x2048) (off := fun b : Fin 3 => ![b.val, 0, 0]) (size := S1x512x2048.size) (inb := slotInb) (a₀ := (0 : Fin 3)) (R := 1) (hoff₀ := fun b => by rw [Nat.one_mul]; rfl)
    (hoff := fun b a h => by fin_cases a <;> first | exact absurd rfl h | rfl) (hsz₀ := rfl) (hsz := fun a h => by fin_cases a <;> first | exact absurd rfl h | rfl) rfl

/-! ## Each buffer as its blocks -/

omit [FloatOps F] in
theorem rows_eq (c : Dev nD) (f) : bufP (F := F) c cc0_scratch0 f = bigSep Finset.univ fun t => xrow c t f :=
  Ring.pointsTo_blocks (Ix := Unit) (Name := ℕ) (U := UU) (Lvl := ℕ) (q := fullShare) (ℓ := (c : Thread nD τ).loc cc0_scratch0) (fun t => (rowR t).set) row_disj row_cover f
omit [FloatOps F] in
theorem rows_join (c : Dev nD) (f₀ : (cc0_scratch0 : Ref sig .tc).ty.Contents (Elt F)) : bigSep Finset.univ (fun t => iprop(∃ f, xrow (F := F) c t f)) ⊢ iprop(∃ f, bufP c cc0_scratch0 f) :=
  Ring.pointsTo_blocks_join_exists (Ix := Unit) (Name := ℕ) (U := UU) (Lvl := ℕ) (q := fullShare) (ℓ := (c : Thread nD τ).loc cc0_scratch0) (fun t => (rowR t).set) row_disj row_cover f₀
omit [FloatOps F] in
theorem cols_eq (c : Dev nD) (f) : bufP (F := F) c cc0_scratch1 f = bigSep Finset.univ fun t => xcol c t f :=
  Ring.pointsTo_blocks (Ix := Unit) (Name := ℕ) (U := UU) (Lvl := ℕ) (q := fullShare) (ℓ := (c : Thread nD τ).loc cc0_scratch1) (fun t => (colR t).set) col_disj col_cover f
omit [FloatOps F] in
theorem cols_join (c : Dev nD) (f₀ : (cc0_scratch1 : Ref sig .tc).ty.Contents (Elt F)) : bigSep Finset.univ (fun t => iprop(∃ f, xcol (F := F) c t f)) ⊢ iprop(∃ f, bufP c cc0_scratch1 f) :=
  Ring.pointsTo_blocks_join_exists (Ix := Unit) (Name := ℕ) (U := UU) (Lvl := ℕ) (q := fullShare) (ℓ := (c : Thread nD τ).loc cc0_scratch1) (fun t => (colR t).set) col_disj col_cover f₀
omit [FloatOps F] in
theorem slots_eq (c : Dev nD) (f) : bufP (F := F) c cc0_scratch2 f = bigSep Finset.univ fun t => wsl c t f :=
  Ring.pointsTo_blocks (Ix := Unit) (Name := ℕ) (U := UU) (Lvl := ℕ) (q := fullShare) (ℓ := (c : Thread nD τ).loc cc0_scratch2) (fun t => (slotR t).set) slot_disj slot_cover f
omit [FloatOps F] in
theorem slots_join (c : Dev nD) (f₀ : (cc0_scratch2 : Ref sig .tc).ty.Contents (Elt F)) : bigSep Finset.univ (fun t => iprop(∃ f, wsl (F := F) c t f)) ⊢ iprop(∃ f, bufP c cc0_scratch2 f) :=
  Ring.pointsTo_blocks_join_exists (Ix := Unit) (Name := ℕ) (U := UU) (Lvl := ℕ) (q := fullShare) (ℓ := (c : Thread nD τ).loc cc0_scratch2) (fun t => (slotR t).set) slot_disj slot_cover f₀
omit [FloatOps F] in
theorem wrows_eq (c : Dev nD) : bufP (F := F) c main_arg1 (wv m c) = bigSep Finset.univ fun t => wrow m c t :=
  Ring.pointsTo_blocks (Ix := Unit) (Name := ℕ) (U := UU) (Lvl := ℕ) (q := fullShare) (ℓ := (c : Thread nD τ).loc main_arg1) (fun t => (wrowR t).set) wrow_disj wrow_cover (wv m c)
omit [FloatOps F] in
theorem ams_eq (c : Dev nD) (q : PosShare TreeShare) (f) :
    iprop(((c : Thread nD τ).loc cc0_scratch3) ↦{q} f : sProp 𝕄) = bigSep Finset.univ fun t => amr (F := F) c t q f :=
  Ring.pointsTo_blocks (Ix := Unit) (Name := ℕ) (U := UU) (Lvl := ℕ) (q := q) (ℓ := (c : Thread nD τ).loc cc0_scratch3) (fun t => (amR t).set) am_disj am_cover f
omit [FloatOps F] in
theorem ams_join (c : Dev nD) (f₀ : (cc0_scratch3 : Ref sig .tc).ty.Contents (Elt F)) : bigSep Finset.univ (fun t => iprop(∃ f, amr (F := F) c t fullShare f)) ⊢ iprop(∃ f, bufP c cc0_scratch3 f) :=
  Ring.pointsTo_blocks_join_exists (Ix := Unit) (Name := ℕ) (U := UU) (Lvl := ℕ) (q := fullShare) (ℓ := (c : Thread nD τ).loc cc0_scratch3) (fun t => (amR t).set) am_disj am_cover f₀

/-! ## Families listed -/

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem nx_zero (c : Dev nD) : nx c 0 = c := Fin.ext (Nat.mod_eq_of_lt c.isLt)
theorem tor_zero (c : Dev nD) : tor c 0 = c := by revert c; decide

omit [FloatOps F] in
/-- A family over the devices, listed from `c` onwards. -/
theorem around (c : Dev nD) (Φ : Dev nD → sProp 𝕄) :
    bigSep Finset.univ Φ = iprop(Φ c ∗ Φ (nx c 1) ∗ Φ (nx c 2) ∗ Φ (nx c 3) ∗ Φ (nx c 4) ∗ Φ (nx c 5) ∗ Φ (nx c 6) ∗ Φ (nx c 7)) := by
  rw [bigSep_univ_equiv (rot c) Φ, eight]
  show iprop(Φ (nx c 0) ∗ _) = _
  rw [nx_zero]; rfl
omit [FloatOps F] in
/-- and from `c` backwards. -/
theorem around_back (c : Dev nD) (Φ : Dev nD → sProp 𝕄) :
    bigSep Finset.univ Φ = iprop(Φ c ∗ Φ (pv c 1) ∗ Φ (pv c 2) ∗ Φ (pv c 3) ∗ Φ (pv c 4) ∗ Φ (pv c 5) ∗ Φ (pv c 6) ∗ Φ (pv c 7)) := by
  rw [bigSep_univ_equiv (tor c) Φ, eight, tor_zero]; rfl

/-! ## A row of maxima and its lent shares -/

/-- The first `n` shares lent of row `j`. -/
def lent (c : Dev nD) (j : Fin 8) (f : (cc0_scratch3 : Ref sig .tc).ty.Contents (Elt F)) : ℕ → sProp 𝕄
  | 0 => BI.emp
  | n + 1 => iprop(lent c j f n ∗ amr c j (lend n) f)

theorem amr_lent (c : Dev nD) (j : Fin 8) (f) (n : ℕ) : iprop(amr (F := F) c j (keep n) f ∗ lent c j f n) ⊣⊢ amr c j fullShare f := by
  induction n with
  | zero => constructor
            · iintro ⟨H, -⟩; iexact H
            · exact (Entails.of_eq (sep_emp_eq (amr c j fullShare f)).symm)
  | succ n ih =>
    have e : lent (F := F) c j f (n + 1) = iprop(lent c j f n ∗ amr c j (lend n) f) := rfl
    rw [e]
    constructor
    · refine BIBase.Entails.trans ?_ ih.1
      iintro ⟨H, Hl, Hn⟩
      isplitl [H Hn]
      · iapply (amr_split (F := F) c j n f).2; isplitl [Hn] <;> iassumption
      iexact Hl
    · refine ih.2.trans ?_
      iintro ⟨H, Hl⟩
      ihave H := (amr_split (F := F) c j n f).1 $$ H
      icases H with ⟨H1, H2⟩
      isplitl [H2]; · iexact H2
      isplitl [Hl] <;> iassumption

/-- All eight rows read at once: the shares `q` of every row together, the rest of the others' rows beside. -/
theorem am_open (c : Dev nD) (f) :
    iprop(amr (F := F) c c (keep 7) f ∗ amr c (pv c 1) fullShare f ∗ amr c (pv c 2) fullShare f ∗ amr c (pv c 3) fullShare f ∗ amr c (pv c 4) fullShare f ∗ amr c (pv c 5) fullShare f ∗ amr c (pv c 6) fullShare f ∗ amr c (pv c 7) fullShare f)
      ⊣⊢ iprop((((c : Thread nD τ).loc cc0_scratch3) ↦{keep 7} f) ∗ lent c (pv c 1) f 7 ∗ lent c (pv c 2) f 7 ∗ lent c (pv c 3) f 7 ∗ lent c (pv c 4) f 7 ∗ lent c (pv c 5) f 7 ∗ lent c (pv c 6) f 7 ∗ lent c (pv c 7) f 7) := by
  rw [ams_eq, around_back c]
  have e : ∀ j, amr (F := F) c j fullShare f = iprop(amr c j (keep 7) f ∗ lent c j f 7) := fun j => Entails.antisymm (amr_lent c j f 7).2 (amr_lent c j f 7).1
  simp only [e]
  constructor
  · iintro ⟨H, ⟨A1, B1⟩, ⟨A2, B2⟩, ⟨A3, B3⟩, ⟨A4, B4⟩, ⟨A5, B5⟩, ⟨A6, B6⟩, ⟨A7, B7⟩⟩
    isplitl [H A1 A2 A3 A4 A5 A6 A7]
    · isplitl [H]; · iexact H
      isplitl [A1]; · iexact A1
      isplitl [A2]; · iexact A2
      isplitl [A3]; · iexact A3
      isplitl [A4]; · iexact A4
      isplitl [A5]; · iexact A5
      isplitl [A6]; · iexact A6
      iexact A7
    isplitl [B1]; · iexact B1
    isplitl [B2]; · iexact B2
    isplitl [B3]; · iexact B3
    isplitl [B4]; · iexact B4
    isplitl [B5]; · iexact B5
    isplitl [B6]; · iexact B6
    iexact B7
  · iintro ⟨⟨H, A1, A2, A3, A4, A5, A6, A7⟩, B1, B2, B3, B4, B5, B6, B7⟩
    isplitl [H]; · iexact H
    isplitl [A1 B1]; · isplitl [A1] <;> iassumption
    isplitl [A2 B2]; · isplitl [A2] <;> iassumption
    isplitl [A3 B3]; · isplitl [A3] <;> iassumption
    isplitl [A4 B4]; · isplitl [A4] <;> iassumption
    isplitl [A5 B5]; · isplitl [A5] <;> iassumption
    isplitl [A6 B6]; · isplitl [A6] <;> iassumption
    isplitl [A7] <;> iassumption

end Cert.Run

end
-- ==== Proof.PartsA.lean ====
/- The kernel's first parts at a symbolic device: the handshake, the first weight copies, the rounded block and its sends. -/
module

public import proofs.«01_k».proof.Proof.Split

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 36 → ℕ)

/-- A printed device number is the place it reduces to. -/
theorem dev_at {n r : ℕ} {c : Dev nD} (h : n = (c.val + r) % 8) {hn : n < nD} : (⟨n, hn⟩ : Dev nD) = nx c r := Fin.ext h

/-- The rounded block stored: the row block kept and the seven sent. -/
theorem xb_rows (c : Dev nD) : bufP c cc0_scratch0 (k0_pay2 (k0_pay1 (xstg m ρ c)))
    ⊢ iprop(xrow c c (xb m ρ c) ∗ xbr m ρ c 1 ∗ xbr m ρ c 2 ∗ xbr m ρ c 3 ∗ xbr m ρ c 4 ∗ xbr m ρ c 5 ∗ xbr m ρ c 6 ∗ xbr m ρ c 7) :=
  Entails.of_eq ((rows_eq c (xb m ρ c)).trans (around c fun t => xrow c t (xb m ρ c)))

/-- The first five signals. -/
theorem part1_spec (c : Dev nD) {Q} :
    iprop(ctx m ρ K ∗ owing c 21 ∗ sigT c 1 ∗ sigT c 2 ∗ sigT c 3 ∗ sigT c 4 ∗ sigT c 5
        ∗ (∀ a b, owing c 16 -∗ Q ⟨c, place c, barS, a, b⟩)) ⊢ WP c (P1 (F := F)) Q := by
  unfold place P1
  rw [k0_part1_eq_skeleton]
  unfold k0_part1_skel
  simp only [semSignalWord, semWaitWord, Prog.lift, Prog.bind_op, Prog.bind_ret, Prog.pure_eq_ret, wp_deviceId]
  iintro ⟨#HC, HO, T1, T2, T3, T4, T5, Hk⟩
  iapply (sig_at m ρ K c 1 20 rfl (by decide) (by decide) (dev_at (k0_dev1_eq c)) (by decide)) $$ [HO T1]
  · isplitr; · iexact HC
    isplitl [HO]; · iexact HO
    iexact T1
  iintro HO
  iapply (sig_at m ρ K c 2 19 rfl (by decide) (by decide) (dev_at (k0_dev2_eq c)) (by decide)) $$ [HO T2]
  · isplitr; · iexact HC
    isplitl [HO]; · iexact HO
    iexact T2
  iintro HO
  iapply (sig_at m ρ K c 3 18 rfl (by decide) (by decide) (dev_at (k0_dev3_eq c)) (by decide)) $$ [HO T3]
  · isplitr; · iexact HC
    isplitl [HO]; · iexact HO
    iexact T3
  iintro HO
  iapply (sig_at m ρ K c 4 17 rfl (by decide) (by decide) (dev_at (k0_dev4_eq c)) (by decide)) $$ [HO T4]
  · isplitr; · iexact HC
    isplitl [HO]; · iexact HO
    iexact T4
  iintro HO
  iapply (sig_at m ρ K c 5 16 rfl (by decide) (by decide) (dev_at (k0_dev5_eq c)) (by decide)) $$ [HO T5]
  · isplitr; · iexact HC
    isplitl [HO]; · iexact HO
    iexact T5
  iintro HO
  iapply (WP_ret c)
  iapply Hk
  iexact HO

variable (a₁ a₂ : BitVec 32)

/-- The last two signals, the wait for the other seven devices', the first three weight copies, and the block loaded. -/
theorem part2_spec (c : Dev nD) {Q} :
    iprop(ctx m ρ K ∗ owing c 16 ∗ sigT c 6 ∗ sigT c 7 ∗ cred (tallyAt (cell c .bar) () 7) ∗ atPos ER (cell c .bar) 0 ∅ 0 ∗ wIdle c 0 0 ∗ wtok c 0 0 ∗ wrow m c 0 ∗ wIdle c 1 0 ∗ wtok c 1 0 ∗ wrow m c 1 ∗ wIdle c 2 0 ∗ wtok c 2 0 ∗ wrow m c 2 ∗ bufP c cc0_stg0_0 (xstg m ρ c)
        ∗ (owing c 14 ∗ semVal (cell c .bar) 0 ∗ bigSep (Finset.univ.erase c) (barPay c) ∗ wBusy c 0 0 ∗ wBusy c 1 0 ∗ wBusy c 2 0 ∗ bufP c cc0_stg0_0 (xstg m ρ c) -∗ Q (k0_pay1 (xstg m ρ c)))) ⊢ WP c (P2 (F := F) c (place c) barS a₁ a₂) Q := by
  unfold P2
  rw [k0_part2_eq_skeleton]
  unfold k0_part2_skel
  simp only [semSignalWord, semWaitWord, Prog.lift, Prog.bind_op, Prog.bind_ret, Prog.pure_eq_ret, wp_deviceId]
  iintro ⟨#HC, HO, T6, T7, Hb, Ha, I0, K0, R0, I1, K1, R1, I2, K2, R2, Hx, Hk⟩
  iapply (sig_at m ρ K c 6 15 rfl (by decide) (by decide) (dev_at (k0_dev6_eq c)) (by decide)) $$ [HO T6]
  · isplitr; · iexact HC
    isplitl [HO]; · iexact HO
    iexact T6
  iintro HO
  iapply (sig_at m ρ K c 7 14 rfl (by decide) (by decide) (dev_at (k0_dev7_eq c)) (by decide)) $$ [HO T7]
  · isplitr; · iexact HC
    isplitl [HO]; · iexact HO
    iexact T7
  iintro HO
  iapply (barrier_step m ρ K c (by decide)) $$ [Hb HO Ha]
  · isplitr; · iexact HC
    isplitl [Hb]; · iexact Hb
    isplitl [HO]; · iexact HO
    iexact Ha
  iintro ⟨HO, Hz, Hp⟩
  iapply (copy_at m ρ K c 0 0 0 rfl (by decide) rfl rfl (sem_w 0 rfl)) $$ [I0 K0 R0]
  · isplitr; · iexact HC
    isplitl [I0]; · iexact I0
    isplitl [K0]; · iexact K0
    iexact R0
  iintro B0
  iapply (copy_at m ρ K c 1 0 1 rfl (by decide) rfl rfl (sem_w 1 rfl)) $$ [I1 K1 R1]
  · isplitr; · iexact HC
    isplitl [I1]; · iexact I1
    isplitl [K1]; · iexact K1
    iexact R1
  iintro B1
  iapply (copy_at m ρ K c 2 0 2 rfl (by decide) rfl rfl (sem_w 2 rfl)) $$ [I2 K2 R2]
  · isplitr; · iexact HC
    isplitl [I2]; · iexact I2
    isplitl [K2]; · iexact K2
    iexact R2
  iintro B2
  iapply (load_in c _) $$ Hx
  iintro Hx
  iapply (WP_ret c)
  iapply Hk
  isplitl [HO]; · iexact HO
  isplitl [Hz]; · iexact Hz
  isplitl [Hp]; · iexact Hp
  isplitl [B0]; · iexact B0
  isplitl [B1]; · iexact B1
  isplitl [B2]; · iexact B2
  iexact Hx

/-- The rounded block stored, and its first two sends. -/
theorem part3_spec (c : Dev nD) {Q} :
    iprop(ctx m ρ K ∗ owing c 14 ∗ (∃ f, bufP c cc0_scratch0 f) ∗ sendT c 1 ∗ sendT c 2
        ∗ (∀ a b, owing c 12 ∗ sentT c 1 ∗ sentT c 2 ∗ xrow c c (xb m ρ c) ∗ xbr m ρ c 3 ∗ xbr m ρ c 4 ∗ xbr m ρ c 5 ∗ xbr m ρ c 6 ∗ xbr m ρ c 7 -∗ Q ⟨a, b⟩)) ⊢ WP c (P3 (F := F) c (place c) (k0_pay1 (xstg m ρ c))) Q := by
  unfold P3
  rw [k0_part3_eq_skeleton]
  unfold k0_part3_skel
  simp only [semSignalWord, semWaitWord, Prog.lift, Prog.bind_op, Prog.bind_ret, Prog.pure_eq_ret, wp_deviceId]
  iintro ⟨#HC, HO, Hx, S1, S2, Hk⟩
  icases Hx with ⟨%f, Hx⟩
  iapply (load_xb c f) $$ Hx
  iintro Hx
  iapply (store_xb c f _) $$ Hx
  iintro Hx
  ihave Hx := (xb_rows m ρ c) $$ Hx
  icases Hx with ⟨X0, X1, X2, X3, X4, X5, X6, X7⟩
  iapply (send_at m ρ K c 1 13 rfl (by decide) (by decide) (k0_off3_eq c) (k0_off4_eq c 0) (dev_at (k0_dev8_eq c)) (sem_snd _ (k0_off1_eq c 0)) (sem_rcv _ (k0_off2_eq c))) $$ [HO S1 X1]
  · isplitr; · iexact HC
    isplitl [HO]; · iexact HO
    isplitl [S1]; · iexact S1
    iexact X1
  iintro ⟨HO, C1⟩
  iapply (send_at m ρ K c 2 12 rfl (by decide) (by decide) (k0_off3_eq c) (k0_off4_eq c 1) (dev_at (k0_dev9_eq c)) (sem_snd _ (k0_off1_eq c 1)) (sem_rcv _ (k0_off2_eq c))) $$ [HO S2 X2]
  · isplitr; · iexact HC
    isplitl [HO]; · iexact HO
    isplitl [S2]; · iexact S2
    iexact X2
  iintro ⟨HO, C2⟩
  iapply (WP_ret c)
  iapply Hk
  isplitl [HO]; · iexact HO
  isplitl [C1]; · iexact C1
  isplitl [C2]; · iexact C2
  isplitl [X0]; · iexact X0
  isplitl [X3]; · iexact X3
  isplitl [X4]; · iexact X4
  isplitl [X5]; · iexact X5
  isplitl [X6]; · iexact X6
  iexact X7

/-- Three more sends. -/
theorem part4_spec (c : Dev nD) {Q} :
    iprop(ctx m ρ K ∗ owing c 12 ∗ sendT c 3 ∗ xbr m ρ c 3 ∗ sendT c 4 ∗ xbr m ρ c 4 ∗ sendT c 5 ∗ xbr m ρ c 5
        ∗ (∀ a, owing c 9 ∗ sentT c 3 ∗ sentT c 4 ∗ sentT c 5 -∗ Q a)) ⊢ WP c (P4 (F := F) c (place c) a₁ a₂) Q := by
  unfold P4
  rw [k0_part4_eq_skeleton]
  unfold k0_part4_skel
  simp only [semSignalWord, semWaitWord, Prog.lift, Prog.bind_op, Prog.bind_ret, Prog.pure_eq_ret, wp_deviceId]
  iintro ⟨#HC, HO, S3, X3, S4, X4, S5, X5, Hk⟩
  iapply (send_at m ρ K c 3 11 rfl (by decide) (by decide) (k0_off3_eq c) (k0_off4_eq c 2) (dev_at (k0_dev10_eq c)) (sem_snd _ (k0_off1_eq c 2)) (sem_rcv _ (k0_off2_eq c))) $$ [HO S3 X3]
  · isplitr; · iexact HC
    isplitl [HO]; · iexact HO
    isplitl [S3]; · iexact S3
    iexact X3
  iintro ⟨HO, C3⟩
  iapply (send_at m ρ K c 4 10 rfl (by decide) (by decide) (k0_off3_eq c) (k0_off4_eq c 3) (dev_at (k0_dev11_eq c)) (sem_snd _ (k0_off1_eq c 3)) (sem_rcv _ (k0_off2_eq c))) $$ [HO S4 X4]
  · isplitr; · iexact HC
    isplitl [HO]; · iexact HO
    isplitl [S4]; · iexact S4
    iexact X4
  iintro ⟨HO, C4⟩
  iapply (send_at m ρ K c 5 9 rfl (by decide) (by decide) (k0_off3_eq c) (k0_off4_eq c 4) (dev_at (k0_dev12_eq c)) (sem_snd _ (k0_off1_eq c 4)) (sem_rcv _ (k0_off2_eq c))) $$ [HO S5 X5]
  · isplitr; · iexact HC
    isplitl [HO]; · iexact HO
    isplitl [S5]; · iexact S5
    iexact X5
  iintro ⟨HO, C5⟩
  iapply (WP_ret c)
  iapply Hk
  isplitl [HO]; · iexact HO
  isplitl [C3]; · iexact C3
  isplitl [C4]; · iexact C4
  iexact C5

/-- The wait for column block `j` at a part's end. -/
theorem cond_end (c : Dev nD) (j : Fin 8) {P : Prop} [Decidable P] (hP : Iff P (c ≠ j)) {q : DmaSem sig} (hq : SemLoc.dma q = csem (idx (.rcv j)))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N1) {Q : PUnit → sProp 𝕄} :
    iprop(ctx m ρ K ∗ owing c 7 ∗ rWait m ρ c j)
      ⊢ iprop((owing c 7 ∗ rDone m ρ c j -∗ Q ⟨⟩)
          -∗ WP c (if h : P then (.op (.waitDma2 q src dst hsrc hdst) fun _ => .ret ⟨⟩) else .ret ⟨⟩) Q) := by
  unfold rWait rDone
  iintro ⟨#HC, HO, Hr, Ha⟩ Hk
  iapply (cond_step m ρ K c j hP hq hN (hsrc := hsrc) (hdst := hdst)) $$ [HO Hr Ha]
  · isplitr; · iexact HC
    isplitl [Hr]; · iexact Hr
    isplitl [HO] <;> iassumption
  iintro ⟨HO, Hz, Hx⟩
  iapply Hk
  isplitl [HO]; · iexact HO
  isplitl [Hz] <;> iassumption

/-- The last two sends, the device's own block stored in its column block, and the first column block's wait. The own
    column block, once stored, makes the waits of all the column blocks ready: the first is made here, and `W` is the rest. -/
theorem part5_spec (c : Dev nD) (W : sProp 𝕄) {Q} :
    iprop(ctx m ρ K ∗ owing c 9 ∗ sendT c 6 ∗ xbr m ρ c 6 ∗ sendT c 7 ∗ xbr m ρ c 7 ∗ xrow c c (xb m ρ c) ∗ (∃ f, xcol c c f) ∗ (xcol c c (xg m ρ c) -∗ (rWait m ρ c 0 ∗ W))
        ∗ (owing c 7 ∗ sentT c 6 ∗ sentT c 7 ∗ xrow c c (xb m ρ c) ∗ rDone m ρ c 0 ∗ W -∗ Q ⟨⟩)) ⊢ WP c (P5 (F := F) c (place c) a₁) Q := by
  unfold P5
  rw [k0_part5_eq_skeleton]
  unfold k0_part5_skel
  simp only [semSignalWord, semWaitWord, Prog.lift, Prog.bind_op, Prog.bind_ret, Prog.pure_eq_ret, wp_deviceId]
  iintro ⟨#HC, HO, S6, X6, S7, X7, X0, Hc, Hw, Hk⟩
  iapply (send_at m ρ K c 6 8 rfl (by decide) (by decide) (k0_off3_eq c) (k0_off4_eq c 5) (dev_at (k0_dev13_eq c)) (sem_snd _ (k0_off1_eq c 5)) (sem_rcv _ (k0_off2_eq c))) $$ [HO S6 X6]
  · isplitr; · iexact HC
    isplitl [HO]; · iexact HO
    isplitl [S6]; · iexact S6
    iexact X6
  iintro ⟨HO, C6⟩
  iapply (send_at m ρ K c 7 7 rfl (by decide) (by decide) (k0_off3_eq c) (k0_off4_eq c 6) (dev_at (k0_dev14_eq c)) (sem_snd _ (k0_off1_eq c 6)) (sem_rcv _ (k0_off2_eq c))) $$ [HO S7 X7]
  · isplitr; · iexact HC
    isplitl [HO]; · iexact HO
    isplitl [S7]; · iexact S7
    iexact X7
  iintro ⟨HO, C7⟩
  icases Hc with ⟨%f, Hc⟩
  iapply (load_own c _ (k0_off5_eq c)) $$ X0
  iintro X0
  iapply (load_col_any c c f (k0_off6_eq c)) $$ Hc
  iintro %_ Hc
  iapply (store_own m ρ c f (k0_off6_eq c)) $$ Hc
  iintro Hc
  ihave Hw := Hw $$ Hc
  icases Hw with ⟨R0, HW⟩
  iapply (cond_end m ρ K c 0 (test_iff c 0) (sem_rcv 0 rfl) cred_x1) $$ [HO R0]
  · isplitr; · iexact HC
    isplitl [HO]; · iexact HO
    iexact R0
  iintro ⟨HO, D0⟩
  iapply Hk
  isplitl [HO]; · iexact HO
  isplitl [C6]; · iexact C6
  isplitl [C7]; · iexact C7
  isplitl [X0]; · iexact X0
  isplitl [D0]; · iexact D0
  iexact HW

end Cert.Run

end
-- ==== Proof.PartsB.lean ====
/- The kernel's middle parts at a symbolic device: the eight block products, each after its copies' waits, and the row of maxima read. -/
module

public import proofs.«01_k».proof.Proof.PartsA

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 36 → ℕ)

/-- The wait for column block `j` with what follows it in either case. -/
theorem cond_then (c : Dev nD) (j : Fin 8) {P : Prop} [Decidable P] (hP : Iff P (c ≠ j)) {q : DmaSem sig} (hq : SemLoc.dma q = csem (idx (.rcv j)))
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N1)
    {α : Type} {Q : α → sProp 𝕄} {k : PUnit → Prog (TpuEff nD τ sig (Elt F) Λ₀ .tc) α} :
    iprop(ctx m ρ K ∗ owing c 7 ∗ rWait m ρ c j)
      ⊢ iprop((owing c 7 ∗ rDone m ρ c j -∗ WP c (k ⟨⟩) Q)
          -∗ WP c (if h : P then .op (.waitDma2 q src dst hsrc hdst) k else k ⟨⟩) Q) := by
  have he : (if h : P then .op (.waitDma2 q src dst hsrc hdst) k else k ⟨⟩ : Prog (TpuEff nD τ sig (Elt F) Λ₀ .tc) α)
      = (if h : P then (.op (.waitDma2 q src dst hsrc hdst) fun _ => .ret ⟨⟩) else .ret ⟨⟩) >>= k := by
    split <;> rfl
  rw [he]
  exact cond_at m ρ K c j hP hq hN

/-- The first block product, and the second's blocks loaded. -/
theorem part6_spec (c : Dev nD) {Q} :
    iprop(ctx m ρ K ∗ owing c 7 ∗ wBusy c 0 0 ∗ wBusy c 1 0 ∗ rDone m ρ c 0 ∗ rWait m ρ c 1 ∗ wtok c 0 1 ∗ wrow m c 3 ∗ (∃ f, bufP c cc0_stg1_0 f)
        ∗ (owing c 7 ∗ wBusy c 0 1 ∗ wFull m c 1 0 1 ∗ rDone m ρ c 0 ∗ rDone m ρ c 1 ∗ wrow m c 0 ∗ wrow m c 1 ∗ bufP c cc0_stg1_0 (acc0 m ρ c) -∗ Q ⟨k0_pay5 (xr m ρ c 1), k0_pay6 (wr m c 1), (constant S512x2048 .f32 0x00000000#32)⟩)) ⊢ WP c (P6 (F := F) (place c)) Q := by
  unfold P6
  rw [k0_part6_eq_skeleton]
  unfold k0_part6_skel
  simp only [semSignalWord, semWaitWord, Prog.lift, Prog.bind_op, Prog.bind_ret, Prog.pure_eq_ret, wp_deviceId]
  iintro ⟨#HC, HO, B0, B1, D0, W1, K3, R3, Ho, Hk⟩
  icases Ho with ⟨%f, Ho⟩
  iapply (wwait_at m ρ K c 7 0 0 0 rfl (by decide) (by decide) (sem_w 0 rfl) cred_w) $$ [HO B0]
  · isplitr; · iexact HC
    isplitl [HO]; · iexact HO
    iexact B0
  iintro ⟨HO, F0, R0⟩
  iapply (load_xAt m ρ c 0 rfl) $$ D0
  iintro D0
  iapply (load_wAt m c 0 0 0 rfl) $$ F0
  iintro F0
  ihave I0 := (wFull_idle m c 0 0 0) $$ F0
  iapply (copy_at m ρ K c 0 1 3 rfl (by decide) rfl rfl (sem_w 0 rfl)) $$ [I0 K3 R3]
  · isplitr; · iexact HC
    isplitl [I0]; · iexact I0
    isplitl [K3]; · iexact K3
    iexact R3
  iintro B0
  iapply (load_out c f) $$ Ho
  iintro Ho
  iapply (store_out c f (acc0 m ρ c)) $$ Ho
  iintro Ho
  iapply (cond_then m ρ K c 1 (test_iff c 1) (sem_rcv 1 rfl) cred_x1) $$ [HO W1]
  · isplitr; · iexact HC
    isplitl [HO]; · iexact HO
    iexact W1
  iintro ⟨HO, D1⟩
  iapply (wwait_at m ρ K c 7 1 0 1 rfl (by decide) (by decide) (sem_w 1 rfl) cred_w) $$ [HO B1]
  · isplitr; · iexact HC
    isplitl [HO]; · iexact HO
    iexact B1
  iintro ⟨HO, F1, R1⟩
  iapply (load_xAt m ρ c 1 rfl) $$ D1
  iintro D1
  iapply (load_wAt m c 1 0 1 rfl) $$ F1
  iintro F1
  iapply (WP_ret c)
  iapply Hk
  isplitl [HO]; · iexact HO
  isplitl [B0]; · iexact B0
  isplitl [F1]; · iexact F1
  isplitl [D0]; · iexact D0
  isplitl [D1]; · iexact D1
  isplitl [R0]; · iexact R0
  isplitl [R1]; · iexact R1
  iexact Ho

/-- The second block product, and the third's blocks loaded. -/
theorem part7_spec (c : Dev nD) {Q} :
    iprop(ctx m ρ K ∗ owing c 7 ∗ wFull m c 1 0 1 ∗ wtok c 1 1 ∗ wrow m c 4 ∗ bufP c cc0_stg1_0 (acc0 m ρ c) ∗ rWait m ρ c 2 ∗ wBusy c 2 0
        ∗ (owing c 7 ∗ wBusy c 1 1 ∗ bufP c cc0_stg1_0 (acc1 m ρ c) ∗ rDone m ρ c 2 ∗ wFull m c 2 0 2 ∗ wrow m c 2 -∗ Q (k0_pay8 (xr m ρ c 2) (wr m c 2)))) ⊢ WP c (P7 (F := F) (place c) (k0_pay5 (xr m ρ c 1)) (k0_pay6 (wr m c 1)) (constant S512x2048 .f32 0x00000000#32)) Q := by
  unfold P7
  rw [k0_part7_eq_skeleton]
  unfold k0_part7_skel
  simp only [semSignalWord, semWaitWord, Prog.lift, Prog.bind_op, Prog.bind_ret, Prog.pure_eq_ret, wp_deviceId]
  iintro ⟨#HC, HO, F1, K4, R4, Ho, W2, B2, Hk⟩
  ihave I1 := (wFull_idle m c 1 0 1) $$ F1
  iapply (copy_at m ρ K c 1 1 4 rfl (by decide) rfl rfl (sem_w 1 rfl)) $$ [I1 K4 R4]
  · isplitr; · iexact HC
    isplitl [I1]; · iexact I1
    isplitl [K4]; · iexact K4
    iexact R4
  iintro B1
  iapply (load_out c _) $$ Ho
  iintro Ho
  iapply (load_out c _) $$ Ho
  iintro Ho
  iapply (store_out c _ (acc1 m ρ c)) $$ Ho
  iintro Ho
  iapply (cond_then m ρ K c 2 (test_iff c 2) (sem_rcv 2 rfl) cred_x1) $$ [HO W2]
  · isplitr; · iexact HC
    isplitl [HO]; · iexact HO
    iexact W2
  iintro ⟨HO, D2⟩
  iapply (wwait_at m ρ K c 7 2 0 2 rfl (by decide) (by decide) (sem_w 2 rfl) cred_w) $$ [HO B2]
  · isplitr; · iexact HC
    isplitl [HO]; · iexact HO
    iexact B2
  iintro ⟨HO, F2, R2⟩
  iapply (load_xAt m ρ c 2 rfl) $$ D2
  iintro D2
  iapply (load_wAt m c 2 0 2 rfl) $$ F2
  iintro F2
  iapply (WP_ret c)
  iapply Hk
  isplitl [HO]; · iexact HO
  isplitl [B1]; · iexact B1
  isplitl [Ho]; · iexact Ho
  isplitl [D2]; · iexact D2
  isplitl [F2]; · iexact F2
  iexact R2

/-- The third block product and the fourth. -/
theorem part8_spec (c : Dev nD) {Q} :
    iprop(ctx m ρ K ∗ owing c 7 ∗ wFull m c 2 0 2 ∗ wtok c 2 1 ∗ wrow m c 5 ∗ bufP c cc0_stg1_0 (acc1 m ρ c) ∗ rWait m ρ c 3 ∗ wBusy c 0 1 ∗ wtok c 0 2 ∗ wrow m c 6
        ∗ (owing c 7 ∗ wBusy c 2 1 ∗ bufP c cc0_stg1_0 (acc2 m ρ c) ∗ rDone m ρ c 3 ∗ wrow m c 3 ∗ wBusy c 0 2 -∗ Q (k0_pay10 (xr m ρ c 3) (wr m c 3) (acc2 m ρ c)))) ⊢ WP c (P8 (F := F) (place c) (k0_pay8 (xr m ρ c 2) (wr m c 2))) Q := by
  unfold P8
  rw [k0_part8_eq_skeleton]
  unfold k0_part8_skel
  simp only [semSignalWord, semWaitWord, Prog.lift, Prog.bind_op, Prog.bind_ret, Prog.pure_eq_ret, wp_deviceId]
  iintro ⟨#HC, HO, F2, K5, R5, Ho, W3, B0, K6, R6, Hk⟩
  ihave I2 := (wFull_idle m c 2 0 2) $$ F2
  iapply (copy_at m ρ K c 2 1 5 rfl (by decide) rfl rfl (sem_w 2 rfl)) $$ [I2 K5 R5]
  · isplitr; · iexact HC
    isplitl [I2]; · iexact I2
    isplitl [K5]; · iexact K5
    iexact R5
  iintro B2
  iapply (load_out c _) $$ Ho
  iintro Ho
  iapply (load_out c _) $$ Ho
  iintro Ho
  iapply (store_out c _ (acc2 m ρ c)) $$ Ho
  iintro Ho
  iapply (cond_then m ρ K c 3 (test_iff c 3) (sem_rcv 3 rfl) cred_x1) $$ [HO W3]
  · isplitr; · iexact HC
    isplitl [HO]; · iexact HO
    iexact W3
  iintro ⟨HO, D3⟩
  iapply (wwait_at m ρ K c 7 0 1 3 rfl (by decide) (by decide) (sem_w 0 rfl) cred_w) $$ [HO B0]
  · isplitr; · iexact HC
    isplitl [HO]; · iexact HO
    iexact B0
  iintro ⟨HO, F0, R3⟩
  iapply (load_xAt m ρ c 3 rfl) $$ D3
  iintro D3
  iapply (load_wAt m c 0 1 3 rfl) $$ F0
  iintro F0
  ihave I0 := (wFull_idle m c 0 1 3) $$ F0
  iapply (copy_at m ρ K c 0 2 6 rfl (by decide) rfl rfl (sem_w 0 rfl)) $$ [I0 K6 R6]
  · isplitr; · iexact HC
    isplitl [I0]; · iexact I0
    isplitl [K6]; · iexact K6
    iexact R6
  iintro B0
  iapply (load_out c _) $$ Ho
  iintro Ho
  iapply (WP_ret c)
  iapply Hk
  isplitl [HO]; · iexact HO
  isplitl [B2]; · iexact B2
  isplitl [Ho]; · iexact Ho
  isplitl [D3]; · iexact D3
  isplitl [R3]; · iexact R3
  iexact B0

/-- The fourth block product stored, and the fifth. -/
theorem part9_spec (c : Dev nD) {Q} :
    iprop(ctx m ρ K ∗ owing c 7 ∗ bufP c cc0_stg1_0 (acc2 m ρ c) ∗ rWait m ρ c 4 ∗ wBusy c 1 1 ∗ wtok c 1 2 ∗ wrow m c 7 ∗ rWait m ρ c 5
        ∗ (∀ a, owing c 7 ∗ bufP c cc0_stg1_0 (acc4 m ρ c) ∗ rDone m ρ c 4 ∗ rDone m ρ c 5 ∗ wrow m c 4 ∗ wBusy c 1 2 -∗ Q a)) ⊢ WP c (P9 (F := F) (place c) (k0_pay10 (xr m ρ c 3) (wr m c 3) (acc2 m ρ c))) Q := by
  unfold P9
  rw [k0_part9_eq_skeleton]
  unfold k0_part9_skel
  simp only [semSignalWord, semWaitWord, Prog.lift, Prog.bind_op, Prog.bind_ret, Prog.pure_eq_ret, wp_deviceId]
  iintro ⟨#HC, HO, Ho, W4, B1, K7, R7, W5, Hk⟩
  iapply (load_out c _) $$ Ho
  iintro Ho
  iapply (store_out c _ (acc3 m ρ c)) $$ Ho
  iintro Ho
  iapply (cond_then m ρ K c 4 (test_iff c 4) (sem_rcv 4 rfl) cred_x1) $$ [HO W4]
  · isplitr; · iexact HC
    isplitl [HO]; · iexact HO
    iexact W4
  iintro ⟨HO, D4⟩
  iapply (wwait_at m ρ K c 7 1 1 4 rfl (by decide) (by decide) (sem_w 1 rfl) cred_w) $$ [HO B1]
  · isplitr; · iexact HC
    isplitl [HO]; · iexact HO
    iexact B1
  iintro ⟨HO, F1, R4⟩
  iapply (load_xAt m ρ c 4 rfl) $$ D4
  iintro D4
  iapply (load_wAt m c 1 1 4 rfl) $$ F1
  iintro F1
  ihave I1 := (wFull_idle m c 1 1 4) $$ F1
  iapply (copy_at m ρ K c 1 2 7 rfl (by decide) rfl rfl (sem_w 1 rfl)) $$ [I1 K7 R7]
  · isplitr; · iexact HC
    isplitl [I1]; · iexact I1
    isplitl [K7]; · iexact K7
    iexact R7
  iintro B1
  iapply (load_out c _) $$ Ho
  iintro Ho
  iapply (load_out c _) $$ Ho
  iintro Ho
  iapply (store_out c _ (acc4 m ρ c)) $$ Ho
  iintro Ho
  iapply (cond_then m ρ K c 5 (test_iff c 5) (sem_rcv 5 rfl) cred_x1) $$ [HO W5]
  · isplitr; · iexact HC
    isplitl [HO]; · iexact HO
    iexact W5
  iintro ⟨HO, D5⟩
  iapply (WP_ret c)
  iapply Hk
  isplitl [HO]; · iexact HO
  isplitl [Ho]; · iexact Ho
  isplitl [D4]; · iexact D4
  isplitl [D5]; · iexact D5
  isplitl [R4]; · iexact R4
  iexact B1

/-- The sixth block product, and the seventh's blocks loaded. -/
theorem part10_spec (c : Dev nD) {Q} :
    iprop(ctx m ρ K ∗ owing c 7 ∗ wBusy c 2 1 ∗ rDone m ρ c 5 ∗ bufP c cc0_stg1_0 (acc4 m ρ c) ∗ rWait m ρ c 6 ∗ wBusy c 0 2
        ∗ (owing c 7 ∗ wFull m c 2 1 5 ∗ wrow m c 5 ∗ rDone m ρ c 5 ∗ bufP c cc0_stg1_0 (acc5 m ρ c) ∗ rDone m ρ c 6 ∗ wFull m c 0 2 6 ∗ wrow m c 6 -∗ Q (k0_pay13 (xr m ρ c 6) (wr m c 6)))) ⊢ WP c (P10 (F := F) (place c)) Q := by
  unfold P10
  rw [k0_part10_eq_skeleton]
  unfold k0_part10_skel
  simp only [semSignalWord, semWaitWord, Prog.lift, Prog.bind_op, Prog.bind_ret, Prog.pure_eq_ret, wp_deviceId]
  iintro ⟨#HC, HO, B2, D5, Ho, W6, B0, Hk⟩
  iapply (wwait_at m ρ K c 7 2 1 5 rfl (by decide) (by decide) (sem_w 2 rfl) cred_w) $$ [HO B2]
  · isplitr; · iexact HC
    isplitl [HO]; · iexact HO
    iexact B2
  iintro ⟨HO, F2, R5⟩
  iapply (load_xAt m ρ c 5 rfl) $$ D5
  iintro D5
  iapply (load_wAt m c 2 1 5 rfl) $$ F2
  iintro F2
  iapply (load_out c _) $$ Ho
  iintro Ho
  iapply (load_out c _) $$ Ho
  iintro Ho
  iapply (store_out c _ (acc5 m ρ c)) $$ Ho
  iintro Ho
  iapply (cond_then m ρ K c 6 (test_iff c 6) (sem_rcv 6 rfl) cred_x1) $$ [HO W6]
  · isplitr; · iexact HC
    isplitl [HO]; · iexact HO
    iexact W6
  iintro ⟨HO, D6⟩
  iapply (wwait_at m ρ K c 7 0 2 6 rfl (by decide) (by decide) (sem_w 0 rfl) cred_w) $$ [HO B0]
  · isplitr; · iexact HC
    isplitl [HO]; · iexact HO
    iexact B0
  iintro ⟨HO, F0, R6⟩
  iapply (load_xAt m ρ c 6 rfl) $$ D6
  iintro D6
  iapply (load_wAt m c 0 2 6 rfl) $$ F0
  iintro F0
  iapply (WP_ret c)
  iapply Hk
  isplitl [HO]; · iexact HO
  isplitl [F2]; · iexact F2
  isplitl [R5]; · iexact R5
  isplitl [D5]; · iexact D5
  isplitl [Ho]; · iexact Ho
  isplitl [D6]; · iexact D6
  isplitl [F0]; · iexact F0
  iexact R6

/-- The seventh block product and the eighth, and the sum loaded. -/
theorem part11_spec (c : Dev nD) {Q} :
    iprop(ctx m ρ K ∗ owing c 7 ∗ bufP c cc0_stg1_0 (acc5 m ρ c) ∗ rWait m ρ c 7 ∗ wBusy c 1 2 ∗ (∃ f, amr c c fullShare f)
        ∗ (∀ a, owing c 7 ∗ bufP c cc0_stg1_0 (acc7 m ρ c) ∗ rDone m ρ c 7 ∗ wFull m c 1 2 7 ∗ wrow m c 7 ∗ (∃ f, amr c c fullShare f) -∗ Q ⟨k0_pay16 (acc7 m ρ c), k0_pay17 (acc7 m ρ c), a⟩)) ⊢ WP c (P11 (F := F) c (place c) (k0_pay13 (xr m ρ c 6) (wr m c 6))) Q := by
  unfold P11
  rw [k0_part11_eq_skeleton]
  unfold k0_part11_skel
  simp only [semSignalWord, semWaitWord, Prog.lift, Prog.bind_op, Prog.bind_ret, Prog.pure_eq_ret, wp_deviceId]
  iintro ⟨#HC, HO, Ho, W7, B1, HA, Hk⟩
  iapply (load_out c _) $$ Ho
  iintro Ho
  iapply (load_out c _) $$ Ho
  iintro Ho
  iapply (store_out c _ (acc6 m ρ c)) $$ Ho
  iintro Ho
  iapply (cond_then m ρ K c 7 (test_iff c 7) (sem_rcv 7 rfl) cred_x1) $$ [HO W7]
  · isplitr; · iexact HC
    isplitl [HO]; · iexact HO
    iexact W7
  iintro ⟨HO, D7⟩
  iapply (wwait_at m ρ K c 7 1 2 7 rfl (by decide) (by decide) (sem_w 1 rfl) cred_w) $$ [HO B1]
  · isplitr; · iexact HC
    isplitl [HO]; · iexact HO
    iexact B1
  iintro ⟨HO, F1, R7⟩
  iapply (load_xAt m ρ c 7 rfl) $$ D7
  iintro D7
  iapply (load_wAt m c 1 2 7 rfl) $$ F1
  iintro F1
  iapply (load_out c _) $$ Ho
  iintro Ho
  iapply (load_out c _) $$ Ho
  iintro Ho
  iapply (store_out c _ (acc7 m ρ c)) $$ Ho
  iintro Ho
  iapply (load_out c _) $$ Ho
  iintro Ho
  icases HA with ⟨%f, HA⟩
  iapply (load_row_any c f (k0_off7_eq c)) $$ HA
  iintro %_ HA
  iapply (WP_ret c)
  iapply Hk
  isplitl [HO]; · iexact HO
  isplitl [Ho]; · iexact Ho
  isplitl [D7]; · iexact D7
  isplitl [F1]; · iexact F1
  isplitl [R7]; · iexact R7
  iexists f; iexact HA

end Cert.Run

end
-- ==== Proof.PartsC.lean ====
/- The kernel's last parts at a symbolic device: the row of maxima and its sends, the waits, and the result. -/
module

public import proofs.«01_k».proof.Proof.PartsB

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 36 → ℕ)

/-- The row waited for is the one from `r` places back. -/
theorem off9_pv (c : Dev nD) (r : Fin 7) : k0_off9 c (BitVec.ofNat 32 (1 + r.val)) = ![(pv c (r.val + 1)).val] := by
  rw [k0_off9_eq c r]
  congr 1
  have hr : r.val < 7 := r.isLt
  show (c.val + 7 - r.val) % 8 = (c.val + (8 - (r.val + 1))) % 8
  congr 1; omega

variable (a₁ a₂ : BitVec 32)

/-- The row of maxima stored, and its first three sends. -/
theorem part12_spec (c : Dev nD) (w : Vec F S1x128 .f32) {Q} :
    iprop(ctx m ρ K ∗ owing c 7 ∗ (∃ f, amr c c fullShare f) ∗ amaxT c 1 ∗ amaxT c 2 ∗ amaxT c 3
        ∗ (∀ a, owing c 4 ∗ amr c c (keep 3) (am m ρ) ∗ amS c 1 ∗ amS c 2 ∗ amS c 3 -∗ Q a)) ⊢ WP c (P12 (F := F) c (place c) (k0_pay17 (acc7 m ρ c)) w) Q := by
  unfold P12
  rw [k0_part12_eq_skeleton]
  unfold k0_part12_skel
  simp only [semSignalWord, semWaitWord, Prog.lift, Prog.bind_op, Prog.bind_ret, Prog.pure_eq_ret, wp_deviceId]
  iintro ⟨#HC, HO, HA, T1, T2, T3, Hk⟩
  icases HA with ⟨%f, HA⟩
  iapply (store_row m ρ c f (k0_off7_eq c) rfl) $$ HA
  iintro HA
  iapply (amax_at m ρ K c 0 6 rfl (by decide) (k0_off8_eq c) (k0_off8_eq c) (dev_at (k0_dev15_eq c)) (sem_asd _ (k0_off1_eq c 0)) (sem_arc _ (k0_off2_eq c))) $$ [HO T1 HA]
  · isplitr; · iexact HC
    isplitl [HO]; · iexact HO
    isplitl [T1]; · iexact T1
    iexact HA
  iintro ⟨HO, HA, S1⟩
  iapply (amax_at m ρ K c 1 5 rfl (by decide) (k0_off8_eq c) (k0_off8_eq c) (dev_at (k0_dev16_eq c)) (sem_asd _ (k0_off1_eq c 1)) (sem_arc _ (k0_off2_eq c))) $$ [HO T2 HA]
  · isplitr; · iexact HC
    isplitl [HO]; · iexact HO
    isplitl [T2]; · iexact T2
    iexact HA
  iintro ⟨HO, HA, S2⟩
  iapply (amax_at m ρ K c 2 4 rfl (by decide) (k0_off8_eq c) (k0_off8_eq c) (dev_at (k0_dev17_eq c)) (sem_asd _ (k0_off1_eq c 2)) (sem_arc _ (k0_off2_eq c))) $$ [HO T3 HA]
  · isplitr; · iexact HC
    isplitl [HO]; · iexact HO
    isplitl [T3]; · iexact T3
    iexact HA
  iintro ⟨HO, HA, S3⟩
  iapply (WP_ret c)
  iapply Hk
  isplitl [HO]; · iexact HO
  isplitl [HA]; · iexact HA
  isplitl [S1]; · iexact S1
  isplitl [S2]; · iexact S2
  iexact S3

/-- Three more sends of the row. -/
theorem part13_spec (c : Dev nD) {Q} :
    iprop(ctx m ρ K ∗ owing c 4 ∗ amr c c (keep 3) (am m ρ) ∗ amaxT c 4 ∗ amaxT c 5 ∗ amaxT c 6
        ∗ (owing c 1 ∗ amr c c (keep 6) (am m ρ) ∗ amS c 4 ∗ amS c 5 ∗ amS c 6 -∗ Q ⟨⟩)) ⊢ WP c (P13 (F := F) c (place c) a₁) Q := by
  unfold P13
  rw [k0_part13_eq_skeleton]
  unfold k0_part13_skel
  simp only [semSignalWord, semWaitWord, Prog.lift, Prog.bind_op, Prog.bind_ret, Prog.pure_eq_ret, wp_deviceId]
  iintro ⟨#HC, HO, HA, T4, T5, T6, Hk⟩
  iapply (amax_at m ρ K c 3 3 rfl (by decide) (k0_off8_eq c) (k0_off8_eq c) (dev_at (k0_dev18_eq c)) (sem_asd _ (k0_off1_eq c 3)) (sem_arc _ (k0_off2_eq c))) $$ [HO T4 HA]
  · isplitr; · iexact HC
    isplitl [HO]; · iexact HO
    isplitl [T4]; · iexact T4
    iexact HA
  iintro ⟨HO, HA, S4⟩
  iapply (amax_at m ρ K c 4 2 rfl (by decide) (k0_off8_eq c) (k0_off8_eq c) (dev_at (k0_dev19_eq c)) (sem_asd _ (k0_off1_eq c 4)) (sem_arc _ (k0_off2_eq c))) $$ [HO T5 HA]
  · isplitr; · iexact HC
    isplitl [HO]; · iexact HO
    isplitl [T5]; · iexact T5
    iexact HA
  iintro ⟨HO, HA, S5⟩
  iapply (amax_at m ρ K c 5 1 rfl (by decide) (k0_off8_eq c) (k0_off8_eq c) (dev_at (k0_dev20_eq c)) (sem_asd _ (k0_off1_eq c 5)) (sem_arc _ (k0_off2_eq c))) $$ [HO T6 HA]
  · isplitr; · iexact HC
    isplitl [HO]; · iexact HO
    isplitl [T6]; · iexact T6
    iexact HA
  iintro ⟨HO, HA, S6⟩
  iapply (WP_ret c)
  iapply Hk
  isplitl [HO]; · iexact HO
  isplitl [HA]; · iexact HA
  isplitl [S4]; · iexact S4
  isplitl [S5]; · iexact S5
  iexact S6

/-- The last send of the row, and the waits for three of the others'. -/
theorem part14_spec (c : Dev nD) {Q} :
    iprop(ctx m ρ K ∗ owing c 1 ∗ amr c c (keep 6) (am m ρ) ∗ amaxT c 7 ∗ aWait c 1 ∗ aWait c 2 ∗ aWait c 3
        ∗ (∀ a b, owing c 0 ∗ amr c c (keep 7) (am m ρ) ∗ amS c 7 ∗ aDone m ρ c 1 ∗ aDone m ρ c 2 ∗ aDone m ρ c 3 -∗ Q ⟨a, b⟩)) ⊢ WP c (P14 (F := F) c (place c)) Q := by
  unfold P14
  rw [k0_part14_eq_skeleton]
  unfold k0_part14_skel
  simp only [semSignalWord, semWaitWord, Prog.lift, Prog.bind_op, Prog.bind_ret, Prog.pure_eq_ret, wp_deviceId]
  iintro ⟨#HC, HO, HA, T7, W1, W2, W3, Hk⟩
  iapply (amax_at m ρ K c 6 0 rfl (by decide) (k0_off8_eq c) (k0_off8_eq c) (dev_at (k0_dev21_eq c)) (sem_asd _ (k0_off1_eq c 6)) (sem_arc _ (k0_off2_eq c))) $$ [HO T7 HA]
  · isplitr; · iexact HC
    isplitl [HO]; · iexact HO
    isplitl [T7]; · iexact T7
    iexact HA
  iintro ⟨HO, HA, S7⟩
  iapply (await_at m ρ K c 1 (by decide) (by decide) (sem_arc _ (off9_pv c 0)) cred_am) $$ [HO W1]
  · isplitr; · iexact HC
    isplitl [HO]; · iexact HO
    iexact W1
  iintro ⟨HO, D1⟩
  iapply (await_at m ρ K c 2 (by decide) (by decide) (sem_arc _ (off9_pv c 1)) cred_am) $$ [HO W2]
  · isplitr; · iexact HC
    isplitl [HO]; · iexact HO
    iexact W2
  iintro ⟨HO, D2⟩
  iapply (await_at m ρ K c 3 (by decide) (by decide) (sem_arc _ (off9_pv c 2)) cred_am) $$ [HO W3]
  · isplitr; · iexact HC
    isplitl [HO]; · iexact HO
    iexact W3
  iintro ⟨HO, D3⟩
  iapply (WP_ret c)
  iapply Hk
  isplitl [HO]; · iexact HO
  isplitl [HA]; · iexact HA
  isplitl [S7]; · iexact S7
  isplitl [D1]; · iexact D1
  isplitl [D2]; · iexact D2
  iexact D3

/-- Three more rows waited for. -/
theorem part15_spec (c : Dev nD) {Q} :
    iprop(ctx m ρ K ∗ owing c 0 ∗ aWait c 4 ∗ aWait c 5 ∗ aWait c 6
        ∗ (owing c 0 ∗ aDone m ρ c 4 ∗ aDone m ρ c 5 ∗ aDone m ρ c 6 -∗ Q ⟨⟩)) ⊢ WP c (P15 (F := F) c (place c) a₁ a₂) Q := by
  unfold P15
  rw [k0_part15_eq_skeleton]
  unfold k0_part15_skel
  simp only [semSignalWord, semWaitWord, Prog.lift, Prog.bind_op, Prog.bind_ret, Prog.pure_eq_ret, wp_deviceId]
  iintro ⟨#HC, HO, W4, W5, W6, Hk⟩
  iapply (await_at m ρ K c 4 (by decide) (by decide) (sem_arc _ (off9_pv c 3)) cred_am) $$ [HO W4]
  · isplitr; · iexact HC
    isplitl [HO]; · iexact HO
    iexact W4
  iintro ⟨HO, D4⟩
  iapply (await_at m ρ K c 5 (by decide) (by decide) (sem_arc _ (off9_pv c 4)) cred_am) $$ [HO W5]
  · isplitr; · iexact HC
    isplitl [HO]; · iexact HO
    iexact W5
  iintro ⟨HO, D5⟩
  iapply (await_at m ρ K c 6 (by decide) (by decide) (sem_arc _ (off9_pv c 5)) cred_am) $$ [HO W6]
  · isplitr; · iexact HC
    isplitl [HO]; · iexact HO
    iexact W6
  iintro ⟨HO, D6⟩
  iapply (WP_ret c)
  iapply Hk
  isplitl [HO]; · iexact HO
  isplitl [D4]; · iexact D4
  isplitl [D5]; · iexact D5
  iexact D6

/-- All eight rows, once they are here, can be read together and given back. -/
theorem am_take (c : Dev nD) : iprop(amr c c (keep 7) (am m ρ) ∗ aDone m ρ c 1 ∗ aDone m ρ c 2 ∗ aDone m ρ c 3 ∗ aDone m ρ c 4 ∗ aDone m ρ c 5 ∗ aDone m ρ c 6 ∗ aDone m ρ c 7)
    ⊢ iprop((((c : Thread nD τ).loc cc0_scratch3) ↦{keep 7} am m ρ)
      ∗ ((((c : Thread nD τ).loc cc0_scratch3) ↦{keep 7} am m ρ) -∗ (amr c c (keep 7) (am m ρ) ∗ aDone m ρ c 1 ∗ aDone m ρ c 2 ∗ aDone m ρ c 3 ∗ aDone m ρ c 4 ∗ aDone m ρ c 5 ∗ aDone m ρ c 6 ∗ aDone m ρ c 7))) := by
  unfold aDone
  iintro ⟨HA, ⟨Z1, D1⟩, ⟨Z2, D2⟩, ⟨Z3, D3⟩, ⟨Z4, D4⟩, ⟨Z5, D5⟩, ⟨Z6, D6⟩, ⟨Z7, D7⟩⟩
  ihave HM := (am_open c (am m ρ)).1 $$ [HA D1 D2 D3 D4 D5 D6 D7]
  · isplitl [HA]; · iexact HA
    isplitl [D1]; · iexact D1
    isplitl [D2]; · iexact D2
    isplitl [D3]; · iexact D3
    isplitl [D4]; · iexact D4
    isplitl [D5]; · iexact D5
    isplitl [D6]; · iexact D6
    iexact D7
  icases HM with ⟨HM, HL⟩
  isplitl [HM]; · iexact HM
  iintro HM
  ihave HM := (am_open c (am m ρ)).2 $$ [HM HL]
  · isplitl [HM] <;> iassumption
  icases HM with ⟨HA, D1, D2, D3, D4, D5, D6, D7⟩
  isplitl [HA]; · iexact HA
  isplitl [Z1 D1]; · isplitl [Z1] <;> iassumption
  isplitl [Z2 D2]; · isplitl [Z2] <;> iassumption
  isplitl [Z3 D3]; · isplitl [Z3] <;> iassumption
  isplitl [Z4 D4]; · isplitl [Z4] <;> iassumption
  isplitl [Z5 D5]; · isplitl [Z5] <;> iassumption
  isplitl [Z6 D6]; · isplitl [Z6] <;> iassumption
  isplitl [Z7] <;> iassumption

/-- The last row waited for, the result stored, and the waits for four of the data sends. -/
theorem part16_spec (c : Dev nD) {Q} :
    iprop(ctx m ρ K ∗ owing c 0 ∗ aWait c 7 ∗ amr c c (keep 7) (am m ρ) ∗ aDone m ρ c 1 ∗ aDone m ρ c 2 ∗ aDone m ρ c 3 ∗ aDone m ρ c 4 ∗ aDone m ρ c 5 ∗ aDone m ρ c 6 ∗ bufP c cc0_stg1_0 (acc7 m ρ c) ∗ sentT c 1 ∗ atPos ER (cell c (.snd (nx c 1))) 0 ∅ 0 ∗ sentT c 2 ∗ atPos ER (cell c (.snd (nx c 2))) 0 ∅ 0 ∗ sentT c 3 ∗ atPos ER (cell c (.snd (nx c 3))) 0 ∅ 0 ∗ sentT c 4 ∗ atPos ER (cell c (.snd (nx c 4))) 0 ∅ 0
        ∗ (owing c 0 ∗ amr c c (keep 7) (am m ρ) ∗ aDone m ρ c 1 ∗ aDone m ρ c 2 ∗ aDone m ρ c 3 ∗ aDone m ρ c 4 ∗ aDone m ρ c 5 ∗ aDone m ρ c 6 ∗ aDone m ρ c 7 ∗ bufP c cc0_stg1_0 (outAt m ρ c) ∗ sDone m ρ c 1 ∗ sDone m ρ c 2 ∗ sDone m ρ c 3 ∗ sDone m ρ c 4 -∗ Q ⟨⟩)) ⊢ WP c (P16 (F := F) c (k0_pay16 (acc7 m ρ c))) Q := by
  unfold P16
  rw [k0_part16_eq_skeleton]
  unfold k0_part16_skel
  simp only [semSignalWord, semWaitWord, Prog.lift, Prog.bind_op, Prog.bind_ret, Prog.pure_eq_ret, wp_deviceId]
  iintro ⟨#HC, HO, W7, HA, D1, D2, D3, D4, D5, D6, Ho, C1, P1, C2, P2, C3, P3, C4, P4, Hk⟩
  iapply (await_at m ρ K c 7 (by decide) (by decide) (sem_arc _ (off9_pv c 6)) cred_am) $$ [HO W7]
  · isplitr; · iexact HC
    isplitl [HO]; · iexact HO
    iexact W7
  iintro ⟨HO, D7⟩
  ihave HM := (am_take m ρ c) $$ [HA D1 D2 D3 D4 D5 D6 D7]
  · isplitl [HA]; · iexact HA
    isplitl [D1]; · iexact D1
    isplitl [D2]; · iexact D2
    isplitl [D3]; · iexact D3
    isplitl [D4]; · iexact D4
    isplitl [D5]; · iexact D5
    isplitl [D6]; · iexact D6
    iexact D7
  icases HM with ⟨HM, HL⟩
  iapply (load_am c (keep 7) (am m ρ)) $$ HM
  iintro HM
  ihave HM := HL $$ HM
  icases HM with ⟨HA, D1, D2, D3, D4, D5, D6, D7⟩
  iapply (load_out c _) $$ Ho
  iintro Ho
  iapply (store_out c _ (outAt m ρ c)) $$ Ho
  iintro Ho
  iapply (swait_at m ρ K c 1 (by decide) (by decide) (sem_snd _ (k0_off1_eq c 0)) cred_x0) $$ [HO C1 P1]
  · isplitr; · iexact HC
    isplitl [HO]; · iexact HO
    isplitl [C1]; · iexact C1
    iexact P1
  iintro ⟨HO, E1⟩
  iapply (swait_at m ρ K c 2 (by decide) (by decide) (sem_snd _ (k0_off1_eq c 1)) cred_x0) $$ [HO C2 P2]
  · isplitr; · iexact HC
    isplitl [HO]; · iexact HO
    isplitl [C2]; · iexact C2
    iexact P2
  iintro ⟨HO, E2⟩
  iapply (swait_at m ρ K c 3 (by decide) (by decide) (sem_snd _ (k0_off1_eq c 2)) cred_x0) $$ [HO C3 P3]
  · isplitr; · iexact HC
    isplitl [HO]; · iexact HO
    isplitl [C3]; · iexact C3
    iexact P3
  iintro ⟨HO, E3⟩
  iapply (swait_at m ρ K c 4 (by decide) (by decide) (sem_snd _ (k0_off1_eq c 3)) cred_x0) $$ [HO C4 P4]
  · isplitr; · iexact HC
    isplitl [HO]; · iexact HO
    isplitl [C4]; · iexact C4
    iexact P4
  iintro ⟨HO, E4⟩
  iapply (WP_ret c)
  iapply Hk
  isplitl [HO]; · iexact HO
  isplitl [HA]; · iexact HA
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [Ho]; · iexact Ho
  isplitl [E1]; · iexact E1
  isplitl [E2]; · iexact E2
  isplitl [E3]; · iexact E3
  iexact E4

/-- The waits for the other data sends and for four sends of the row. -/
theorem part17_spec (c : Dev nD) {Q} :
    iprop(ctx m ρ K ∗ owing c 0 ∗ sentT c 5 ∗ atPos ER (cell c (.snd (nx c 5))) 0 ∅ 0 ∗ sentT c 6 ∗ atPos ER (cell c (.snd (nx c 6))) 0 ∅ 0 ∗ sentT c 7 ∗ atPos ER (cell c (.snd (nx c 7))) 0 ∅ 0 ∗ amS c 1 ∗ atPos ER (cell c (.asd (nx c 1))) 0 ∅ 0 ∗ amS c 2 ∗ atPos ER (cell c (.asd (nx c 2))) 0 ∅ 0 ∗ amS c 3 ∗ atPos ER (cell c (.asd (nx c 3))) 0 ∅ 0 ∗ amS c 4 ∗ atPos ER (cell c (.asd (nx c 4))) 0 ∅ 0
        ∗ (owing c 0 ∗ sDone m ρ c 5 ∗ sDone m ρ c 6 ∗ sDone m ρ c 7 ∗ bDone m ρ c 1 ∗ bDone m ρ c 2 ∗ bDone m ρ c 3 ∗ bDone m ρ c 4 -∗ Q ⟨⟩)) ⊢ WP c (P17 (F := F) c) Q := by
  unfold P17
  rw [k0_part17_eq_skeleton]
  unfold k0_part17_skel
  simp only [semSignalWord, semWaitWord, Prog.lift, Prog.bind_op, Prog.bind_ret, Prog.pure_eq_ret, wp_deviceId]
  iintro ⟨#HC, HO, C5, P5, C6, P6, C7, P7, S1, G1, S2, G2, S3, G3, S4, G4, Hk⟩
  iapply (swait_at m ρ K c 5 (by decide) (by decide) (sem_snd _ (k0_off1_eq c 4)) cred_x0) $$ [HO C5 P5]
  · isplitr; · iexact HC
    isplitl [HO]; · iexact HO
    isplitl [C5]; · iexact C5
    iexact P5
  iintro ⟨HO, E5⟩
  iapply (swait_at m ρ K c 6 (by decide) (by decide) (sem_snd _ (k0_off1_eq c 5)) cred_x0) $$ [HO C6 P6]
  · isplitr; · iexact HC
    isplitl [HO]; · iexact HO
    isplitl [C6]; · iexact C6
    iexact P6
  iintro ⟨HO, E6⟩
  iapply (swait_at m ρ K c 7 (by decide) (by decide) (sem_snd _ (k0_off1_eq c 6)) cred_x0) $$ [HO C7 P7]
  · isplitr; · iexact HC
    isplitl [HO]; · iexact HO
    isplitl [C7]; · iexact C7
    iexact P7
  iintro ⟨HO, E7⟩
  iapply (bwait_at m ρ K c 1 (by decide) (by decide) (sem_asd _ (k0_off1_eq c 0)) cred_am) $$ [HO S1 G1]
  · isplitr; · iexact HC
    isplitl [HO]; · iexact HO
    isplitl [S1]; · iexact S1
    iexact G1
  iintro ⟨HO, H1⟩
  iapply (bwait_at m ρ K c 2 (by decide) (by decide) (sem_asd _ (k0_off1_eq c 1)) cred_am) $$ [HO S2 G2]
  · isplitr; · iexact HC
    isplitl [HO]; · iexact HO
    isplitl [S2]; · iexact S2
    iexact G2
  iintro ⟨HO, H2⟩
  iapply (bwait_at m ρ K c 3 (by decide) (by decide) (sem_asd _ (k0_off1_eq c 2)) cred_am) $$ [HO S3 G3]
  · isplitr; · iexact HC
    isplitl [HO]; · iexact HO
    isplitl [S3]; · iexact S3
    iexact G3
  iintro ⟨HO, H3⟩
  iapply (bwait_at m ρ K c 4 (by decide) (by decide) (sem_asd _ (k0_off1_eq c 3)) cred_am) $$ [HO S4 G4]
  · isplitr; · iexact HC
    isplitl [HO]; · iexact HO
    isplitl [S4]; · iexact S4
    iexact G4
  iintro ⟨HO, H4⟩
  iapply (WP_ret c)
  iapply Hk
  isplitl [HO]; · iexact HO
  isplitl [E5]; · iexact E5
  isplitl [E6]; · iexact E6
  isplitl [E7]; · iexact E7
  isplitl [H1]; · iexact H1
  isplitl [H2]; · iexact H2
  isplitl [H3]; · iexact H3
  iexact H4

end Cert.Run

end
-- ==== Proof.Stretch.lean ====
/- The kernel's body in three stretches: the exchange of the row blocks, the products, the exchange of the maxima. -/
module

public import proofs.«01_k».proof.Proof.PartsC

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 36 → ℕ)

theorem bind_intro (c : Dev nD) {α β : Type} {p : Prog (TpuEff nD τ sig (Elt F) Λ₀ .tc) α} {k : α → Prog (TpuEff nD τ sig (Elt F) Λ₀ .tc) β}
    {Q : β → sProp 𝕄} : WP c p (fun a => WP c (k a) Q) ⊢ WP c (p >>= k) Q := Entails.of_eq (by unfold WP; rw [wp_bind])

/-! ## The body cut in three -/

/-- From the row of maxima's store to the end. -/
def stretchC (d0 : Dev nD) (v2 : BitVec 32) (v304 : FVec F S512x2048 .f32) (v310 : FVec F S1x128 .f32) (v312 : Vec F S1x128 .f32) :
    Prog (TpuEff nD τ sig (Elt F) Λ₀ .tc) PUnit := do
  let v347 : BitVec 32 ← P12 d0 v2 v310 v312
  P13 d0 v2 v347
  let ⟨v414, c1_i32_335⟩ : Σ' (v414 : BitVec 32), BitVec 32 ← P14 d0 v2
  P15 d0 v2 v414 c1_i32_335
  P16 d0 v304
  P17 d0
  Prog.lift (.waitDma2 ((cc0_scratch7.slice (Rect.unit (s := S8) (k0_off1 d0 5#32) S1.size (k0_off1_inb d0 4))).squeeze S_ squeezes_S1_S_).sem
    ((Memref.whole cc0_scratch3).slice (Rect.unit (s := S8x128) (k0_off8 d0) S1x128.size (k0_off8_inb d0)) (fun _ => rfl) : Memref sig .tc .vmem S1x128 .f32)
    ((Memref.whole cc0_scratch3).slice (Rect.unit (s := S8x128) (k0_off8 d0) S1x128.size (k0_off8_inb d0)) (fun _ => rfl) : Memref sig .tc .vmem S1x128 .f32)
    (View.wordExact_bits rfl) (View.wordExact_bits rfl))
  Prog.lift (.waitDma2 ((cc0_scratch7.slice (Rect.unit (s := S8) (k0_off1 d0 6#32) S1.size (k0_off1_inb d0 5))).squeeze S_ squeezes_S1_S_).sem
    ((Memref.whole cc0_scratch3).slice (Rect.unit (s := S8x128) (k0_off8 d0) S1x128.size (k0_off8_inb d0)) (fun _ => rfl) : Memref sig .tc .vmem S1x128 .f32)
    ((Memref.whole cc0_scratch3).slice (Rect.unit (s := S8x128) (k0_off8 d0) S1x128.size (k0_off8_inb d0)) (fun _ => rfl) : Memref sig .tc .vmem S1x128 .f32)
    (View.wordExact_bits rfl) (View.wordExact_bits rfl))
  Prog.lift (.waitDma2 ((cc0_scratch7.slice (Rect.unit (s := S8) (k0_off1 d0 7#32) S1.size (k0_off1_inb d0 6))).squeeze S_ squeezes_S1_S_).sem
    ((Memref.whole cc0_scratch3).slice (Rect.unit (s := S8x128) (k0_off8 d0) S1x128.size (k0_off8_inb d0)) (fun _ => rfl) : Memref sig .tc .vmem S1x128 .f32)
    ((Memref.whole cc0_scratch3).slice (Rect.unit (s := S8x128) (k0_off8 d0) S1x128.size (k0_off8_inb d0)) (fun _ => rfl) : Memref sig .tc .vmem S1x128 .f32)
    (View.wordExact_bits rfl) (View.wordExact_bits rfl))
  pure ⟨⟩

/-- The products. -/
def stretchB (d0 : Dev nD) (v2 : BitVec 32) : Prog (TpuEff nD τ sig (Elt F) Λ₀ .tc) PUnit := do
  let ⟨v173, v175, cst_139⟩ : Σ' (v173 : FVec F S512x512 .f32) (v175 : FVec F S512x2048 .f32), FVec F S512x2048 .f32 ← P6 v2
  let v198 : FVec F S512x2048 .f32 ← P7 v2 v173 v175 cst_139
  let v228 : FVec F S512x2048 .f32 ← P8 v2 v198
  let _ ← P9 v2 v228
  let v281 : FVec F S512x2048 .f32 ← P10 v2
  let ⟨v304, v310, v312⟩ : Σ' (v304 : FVec F S512x2048 .f32) (v310 : FVec F S1x128 .f32), Vec F S1x128 .f32 ← P11 d0 v2 v281
  stretchC d0 v2 v304 v310 v312

/-- The whole body. -/
def stretchA : Prog (TpuEff nD τ sig (Elt F) Λ₀ .tc) PUnit := do
  let ⟨d0, v2, v3, v24, c8_i32_20⟩ : Σ' (d0 : Dev nD) (v2 : BitVec 32) (v3 : Sems sig S_) (v24 : BitVec 32), BitVec 32 ← P1
  let v48 : FVec F S4096x512 .f32 ← P2 d0 v2 v3 v24 c8_i32_20
  let ⟨v81, c0_i32_69⟩ : Σ' (v81 : BitVec 32), BitVec 32 ← P3 d0 v2 v48
  let v114 : BitVec 32 ← P4 d0 v2 v81 c0_i32_69
  P5 d0 v2 v114
  stretchB d0 v2

set_option maxRecDepth 65536 in
theorem body_eq : Pbody (F := F) = stretchA := by
  unfold Pbody
  rw [cc0_body_eq_skeleton]
  rfl

/-- What the last stretch takes and leaves, in groups over the seven other devices. -/
def preT (c : Dev nD) : sProp 𝕄 := iprop(amaxT c 1 ∗ amaxT c 2 ∗ amaxT c 3 ∗ amaxT c 4 ∗ amaxT c 5 ∗ amaxT c 6 ∗ amaxT c 7)
def preW (c : Dev nD) : sProp 𝕄 := iprop(aWait c 1 ∗ aWait c 2 ∗ aWait c 3 ∗ aWait c 4 ∗ aWait c 5 ∗ aWait c 6 ∗ aWait c 7)
def preC (c : Dev nD) : sProp 𝕄 := iprop(sentT c 1 ∗ sentT c 2 ∗ sentT c 3 ∗ sentT c 4 ∗ sentT c 5 ∗ sentT c 6 ∗ sentT c 7)
def preP (c : Dev nD) : sProp 𝕄 := iprop(atPos ER (cell c (.snd (nx c 1))) 0 ∅ 0 ∗ atPos ER (cell c (.snd (nx c 2))) 0 ∅ 0 ∗ atPos ER (cell c (.snd (nx c 3))) 0 ∅ 0 ∗ atPos ER (cell c (.snd (nx c 4))) 0 ∅ 0 ∗ atPos ER (cell c (.snd (nx c 5))) 0 ∅ 0 ∗ atPos ER (cell c (.snd (nx c 6))) 0 ∅ 0 ∗ atPos ER (cell c (.snd (nx c 7))) 0 ∅ 0)
def preG (c : Dev nD) : sProp 𝕄 := iprop(atPos ER (cell c (.asd (nx c 1))) 0 ∅ 0 ∗ atPos ER (cell c (.asd (nx c 2))) 0 ∅ 0 ∗ atPos ER (cell c (.asd (nx c 3))) 0 ∅ 0 ∗ atPos ER (cell c (.asd (nx c 4))) 0 ∅ 0 ∗ atPos ER (cell c (.asd (nx c 5))) 0 ∅ 0 ∗ atPos ER (cell c (.asd (nx c 6))) 0 ∅ 0 ∗ atPos ER (cell c (.asd (nx c 7))) 0 ∅ 0)
def postD (c : Dev nD) : sProp 𝕄 := iprop(aDone m ρ c 1 ∗ aDone m ρ c 2 ∗ aDone m ρ c 3 ∗ aDone m ρ c 4 ∗ aDone m ρ c 5 ∗ aDone m ρ c 6 ∗ aDone m ρ c 7)
def postE (c : Dev nD) : sProp 𝕄 := iprop(sDone m ρ c 1 ∗ sDone m ρ c 2 ∗ sDone m ρ c 3 ∗ sDone m ρ c 4 ∗ sDone m ρ c 5 ∗ sDone m ρ c 6 ∗ sDone m ρ c 7)
def postH (c : Dev nD) : sProp 𝕄 := iprop(bDone m ρ c 1 ∗ bDone m ρ c 2 ∗ bDone m ρ c 3 ∗ bDone m ρ c 4 ∗ bDone m ρ c 5 ∗ bDone m ρ c 6 ∗ bDone m ρ c 7)

/-- The last stretch: the maxima exchanged, the result stored, every send waited for. -/
theorem stretchC_spec (c : Dev nD) (w : Vec F S1x128 .f32) {Q} :
    iprop(ctx m ρ K ∗ owing c 7 ∗ (∃ f, amr c c fullShare f) ∗ bufP c cc0_stg1_0 (acc7 m ρ c) ∗ preT c ∗ preW c ∗ preC c ∗ preP c ∗ preG c
        ∗ (owing c 0 ∗ amr c c (keep 7) (am m ρ) ∗ bufP c cc0_stg1_0 (outAt m ρ c) ∗ postD m ρ c ∗ postE m ρ c ∗ postH m ρ c -∗ Q ⟨⟩))
      ⊢ WP c (stretchC c (place c) (k0_pay16 (acc7 m ρ c)) (k0_pay17 (acc7 m ρ c)) w) Q := by
  unfold preT preW preC preP preG postD postE postH stretchC
  simp only [Prog.lift, Prog.bind_op, Prog.bind_ret, Prog.pure_eq_ret]
  iintro ⟨#HC, HO, HA, Ho, ⟨T1, T2, T3, T4, T5, T6, T7⟩, ⟨W1, W2, W3, W4, W5, W6, W7⟩, ⟨C1, C2, C3, C4, C5, C6, C7⟩, ⟨P1, P2, P3, P4, P5, P6, P7⟩, ⟨G1, G2, G3, G4, G5, G6, G7⟩, Hk⟩
  iapply (bind_intro c)
  iapply (part12_spec (w := w) m ρ K c)
  isplitr; · iexact HC
  isplitl [HO]; · iexact HO
  isplitl [HA]; · iexact HA
  isplitl [T1]; · iexact T1
  isplitl [T2]; · iexact T2
  isplitl [T3]; · iexact T3
  iintro %a ⟨HO, HA, S1, S2, S3⟩
  iapply (bind_intro c)
  iapply (part13_spec (a₁ := a) m ρ K c)
  isplitr; · iexact HC
  isplitl [HO]; · iexact HO
  isplitl [HA]; · iexact HA
  isplitl [T4]; · iexact T4
  isplitl [T5]; · iexact T5
  isplitl [T6]; · iexact T6
  iintro ⟨HO, HA, S4, S5, S6⟩
  iapply (bind_intro c)
  iapply (part14_spec m ρ K c)
  isplitr; · iexact HC
  isplitl [HO]; · iexact HO
  isplitl [HA]; · iexact HA
  isplitl [T7]; · iexact T7
  isplitl [W1]; · iexact W1
  isplitl [W2]; · iexact W2
  isplitl [W3]; · iexact W3
  iintro %a1 %a2 ⟨HO, HA, S7, D1, D2, D3⟩
  iapply (bind_intro c)
  iapply (part15_spec (a₁ := a1) (a₂ := a2) m ρ K c)
  isplitr; · iexact HC
  isplitl [HO]; · iexact HO
  isplitl [W4]; · iexact W4
  isplitl [W5]; · iexact W5
  isplitl [W6]; · iexact W6
  iintro ⟨HO, D4, D5, D6⟩
  iapply (bind_intro c)
  iapply (part16_spec m ρ K c)
  isplitr; · iexact HC
  isplitl [HO]; · iexact HO
  isplitl [W7]; · iexact W7
  isplitl [HA]; · iexact HA
  isplitl [D1]; · iexact D1
  isplitl [D2]; · iexact D2
  isplitl [D3]; · iexact D3
  isplitl [D4]; · iexact D4
  isplitl [D5]; · iexact D5
  isplitl [D6]; · iexact D6
  isplitl [Ho]; · iexact Ho
  isplitl [C1]; · iexact C1
  isplitl [P1]; · iexact P1
  isplitl [C2]; · iexact C2
  isplitl [P2]; · iexact P2
  isplitl [C3]; · iexact C3
  isplitl [P3]; · iexact P3
  isplitl [C4]; · iexact C4
  isplitl [P4]; · iexact P4
  iintro ⟨HO, HA, D1, D2, D3, D4, D5, D6, D7, Ho, E1, E2, E3, E4⟩
  iapply (bind_intro c)
  iapply (part17_spec m ρ K c)
  isplitr; · iexact HC
  isplitl [HO]; · iexact HO
  isplitl [C5]; · iexact C5
  isplitl [P5]; · iexact P5
  isplitl [C6]; · iexact C6
  isplitl [P6]; · iexact P6
  isplitl [C7]; · iexact C7
  isplitl [P7]; · iexact P7
  isplitl [S1]; · iexact S1
  isplitl [G1]; · iexact G1
  isplitl [S2]; · iexact S2
  isplitl [G2]; · iexact G2
  isplitl [S3]; · iexact S3
  isplitl [G3]; · iexact G3
  isplitl [S4]; · iexact S4
  isplitl [G4]; · iexact G4
  iintro ⟨HO, E5, E6, E7, H1, H2, H3, H4⟩
  iapply (bwait_at m ρ K c 5 (by decide) (by decide) (sem_asd _ (k0_off1_eq c 4)) cred_am) $$ [HO S5 G5]
  · isplitr; · iexact HC
    isplitl [HO]; · iexact HO
    isplitl [S5]; · iexact S5
    iexact G5
  iintro ⟨HO, H5⟩
  iapply (bwait_at m ρ K c 6 (by decide) (by decide) (sem_asd _ (k0_off1_eq c 5)) cred_am) $$ [HO S6 G6]
  · isplitr; · iexact HC
    isplitl [HO]; · iexact HO
    isplitl [S6]; · iexact S6
    iexact G6
  iintro ⟨HO, H6⟩
  iapply (bwait_at m ρ K c 7 (by decide) (by decide) (sem_asd _ (k0_off1_eq c 6)) cred_am) $$ [HO S7 G7]
  · isplitr; · iexact HC
    isplitl [HO]; · iexact HO
    isplitl [S7]; · iexact S7
    iexact G7
  iintro ⟨HO, H7⟩
  iapply (WP_ret c)
  iapply Hk
  isplitl [HO]; · iexact HO
  isplitl [HA]; · iexact HA
  isplitl [Ho]; · iexact Ho
  isplitl [D1 D2 D3 D4 D5 D6 D7]
  · isplitl [D1]; · iexact D1
    isplitl [D2]; · iexact D2
    isplitl [D3]; · iexact D3
    isplitl [D4]; · iexact D4
    isplitl [D5]; · iexact D5
    isplitl [D6]; · iexact D6
    iexact D7
  isplitl [E1 E2 E3 E4 E5 E6 E7]
  · isplitl [E1]; · iexact E1
    isplitl [E2]; · iexact E2
    isplitl [E3]; · iexact E3
    isplitl [E4]; · iexact E4
    isplitl [E5]; · iexact E5
    isplitl [E6]; · iexact E6
    iexact E7
  isplitl [H1]; · iexact H1
  isplitl [H2]; · iexact H2
  isplitl [H3]; · iexact H3
  isplitl [H4]; · iexact H4
  isplitl [H5]; · iexact H5
  isplitl [H6]; · iexact H6
  iexact H7

/-- What the products take and leave, in groups. -/
def preB (c : Dev nD) : sProp 𝕄 := iprop(wBusy c 0 0 ∗ wBusy c 1 0 ∗ wBusy c 2 0)
def preRW (c : Dev nD) : sProp 𝕄 := iprop(rWait m ρ c 1 ∗ rWait m ρ c 2 ∗ rWait m ρ c 3 ∗ rWait m ρ c 4 ∗ rWait m ρ c 5 ∗ rWait m ρ c 6 ∗ rWait m ρ c 7)
def preK (c : Dev nD) : sProp 𝕄 := iprop(wtok c 0 1 ∗ wtok c 1 1 ∗ wtok c 2 1 ∗ wtok c 0 2 ∗ wtok c 1 2)
def preR (c : Dev nD) : sProp 𝕄 := iprop(wrow m c 3 ∗ wrow m c 4 ∗ wrow m c 5 ∗ wrow m c 6 ∗ wrow m c 7)
def postF (c : Dev nD) : sProp 𝕄 := iprop(wFull m c 0 2 6 ∗ wFull m c 1 2 7 ∗ wFull m c 2 1 5)
def postRD (c : Dev nD) : sProp 𝕄 := iprop(rDone m ρ c 0 ∗ rDone m ρ c 1 ∗ rDone m ρ c 2 ∗ rDone m ρ c 3 ∗ rDone m ρ c 4 ∗ rDone m ρ c 5 ∗ rDone m ρ c 6 ∗ rDone m ρ c 7)
def postR (c : Dev nD) : sProp 𝕄 := iprop(wrow m c 0 ∗ wrow m c 1 ∗ wrow m c 2 ∗ wrow m c 3 ∗ wrow m c 4 ∗ wrow m c 5 ∗ wrow m c 6 ∗ wrow m c 7)

/-- The products: every weight block through its slot, every column block after its wait. -/
theorem stretchB_spec (c : Dev nD) {Q} :
    iprop(ctx m ρ K ∗ owing c 7 ∗ rDone m ρ c 0 ∗ (∃ f, amr c c fullShare f) ∗ (∃ f, bufP c cc0_stg1_0 f) ∗ preB c ∗ preRW m ρ c ∗ preK c ∗ preR m c
        ∗ (∀ w, owing c 7 ∗ (∃ f, amr c c fullShare f) ∗ bufP c cc0_stg1_0 (acc7 m ρ c) ∗ postF m c ∗ postRD m ρ c ∗ postR m c
            -∗ WP c (stretchC c (place c) (k0_pay16 (acc7 m ρ c)) (k0_pay17 (acc7 m ρ c)) w) Q))
      ⊢ WP c (stretchB c (place c)) Q := by
  unfold preB preRW preK preR postF postRD postR stretchB
  iintro ⟨#HC, HO, D0, HA, Ho, ⟨B0, B1, B2⟩, ⟨W1, W2, W3, W4, W5, W6, W7⟩, ⟨K3, K4, K5, K6, K7⟩, ⟨R3, R4, R5, R6, R7⟩, Hk⟩
  iapply (bind_intro c)
  iapply (part6_spec m ρ K c)
  isplitr; · iexact HC
  isplitl [HO]; · iexact HO
  isplitl [B0]; · iexact B0
  isplitl [B1]; · iexact B1
  isplitl [D0]; · iexact D0
  isplitl [W1]; · iexact W1
  isplitl [K3]; · iexact K3
  isplitl [R3]; · iexact R3
  isplitl [Ho]; · iexact Ho
  iintro ⟨HO, B0, F1, D0, D1, R0, R1, Ho⟩
  iapply (bind_intro c)
  iapply (part7_spec m ρ K c)
  isplitr; · iexact HC
  isplitl [HO]; · iexact HO
  isplitl [F1]; · iexact F1
  isplitl [K4]; · iexact K4
  isplitl [R4]; · iexact R4
  isplitl [Ho]; · iexact Ho
  isplitl [W2]; · iexact W2
  isplitl [B2]; · iexact B2
  iintro ⟨HO, B1, Ho, D2, F2, R2⟩
  iapply (bind_intro c)
  iapply (part8_spec m ρ K c)
  isplitr; · iexact HC
  isplitl [HO]; · iexact HO
  isplitl [F2]; · iexact F2
  isplitl [K5]; · iexact K5
  isplitl [R5]; · iexact R5
  isplitl [Ho]; · iexact Ho
  isplitl [W3]; · iexact W3
  isplitl [B0]; · iexact B0
  isplitl [K6]; · iexact K6
  isplitl [R6]; · iexact R6
  iintro ⟨HO, B2, Ho, D3, R3, B0⟩
  iapply (bind_intro c)
  iapply (part9_spec m ρ K c)
  isplitr; · iexact HC
  isplitl [HO]; · iexact HO
  isplitl [Ho]; · iexact Ho
  isplitl [W4]; · iexact W4
  isplitl [B1]; · iexact B1
  isplitl [K7]; · iexact K7
  isplitl [R7]; · iexact R7
  isplitl [W5]; · iexact W5
  iintro %a ⟨HO, Ho, D4, D5, R4, B1⟩
  iapply (bind_intro c)
  iapply (part10_spec m ρ K c)
  isplitr; · iexact HC
  isplitl [HO]; · iexact HO
  isplitl [B2]; · iexact B2
  isplitl [D5]; · iexact D5
  isplitl [Ho]; · iexact Ho
  isplitl [W6]; · iexact W6
  isplitl [B0]; · iexact B0
  iintro ⟨HO, F2, R5, D5, Ho, D6, F0, R6⟩
  iapply (bind_intro c)
  iapply (part11_spec m ρ K c)
  isplitr; · iexact HC
  isplitl [HO]; · iexact HO
  isplitl [Ho]; · iexact Ho
  isplitl [W7]; · iexact W7
  isplitl [B1]; · iexact B1
  isplitl [HA]; · iexact HA
  iintro %a1 ⟨HO, Ho, D7, F1, R7, HA⟩
  iapply Hk
  isplitl [HO]; · iexact HO
  isplitl [HA]; · iexact HA
  isplitl [Ho]; · iexact Ho
  isplitl [F0 F1 F2]
  · isplitl [F0]; · iexact F0
    isplitl [F1]; · iexact F1
    iexact F2
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

/-- What the exchange of the blocks takes, in groups. -/
def preSig (c : Dev nD) : sProp 𝕄 := iprop(sigT c 1 ∗ sigT c 2 ∗ sigT c 3 ∗ sigT c 4 ∗ sigT c 5 ∗ sigT c 6 ∗ sigT c 7)
def preI (c : Dev nD) : sProp 𝕄 := iprop(wIdle c 0 0 ∗ wIdle c 1 0 ∗ wIdle c 2 0)
def preK0 (c : Dev nD) : sProp 𝕄 := iprop(wtok c 0 0 ∗ wtok c 1 0 ∗ wtok c 2 0)
def preR0 (c : Dev nD) : sProp 𝕄 := iprop(wrow m c 0 ∗ wrow m c 1 ∗ wrow m c 2)
def preS (c : Dev nD) : sProp 𝕄 := iprop(sendT c 1 ∗ sendT c 2 ∗ sendT c 3 ∗ sendT c 4 ∗ sendT c 5 ∗ sendT c 6 ∗ sendT c 7)

/-- The exchange: the barrier, the first weight copies, the rounding, the seven sends. -/
theorem stretchA_spec (c : Dev nD) (W : sProp 𝕄) {Q} :
    iprop(ctx m ρ K ∗ owing c 21 ∗ preSig c ∗ cred (tallyAt (cell c .bar) () 7) ∗ atPos ER (cell c .bar) 0 ∅ 0 ∗ preI c ∗ preK0 c ∗ preR0 m c ∗ bufP c cc0_stg0_0 (xstg m ρ c)
        ∗ (∃ f, bufP c cc0_scratch0 f) ∗ (bigSep (Finset.univ.erase c) (barPay c) -∗ (preS c ∗ W)) ∗ (∃ f, xcol c c f) ∗ (xcol c c (xg m ρ c) -∗ (rWait m ρ c 0 ∗ preRW m ρ c))
        ∗ (owing c 7 ∗ semVal (cell c .bar) 0 ∗ preB c ∗ W ∗ bufP c cc0_stg0_0 (xstg m ρ c) ∗ preC c ∗ xrow c c (xb m ρ c) ∗ rDone m ρ c 0 ∗ preRW m ρ c
            -∗ WP c (stretchB c (place c)) Q))
      ⊢ WP c (Pbody (F := F)) Q := by
  rw [body_eq]
  unfold preSig preI preK0 preR0 preS preB preC stretchA
  iintro ⟨#HC, HO, ⟨T1, T2, T3, T4, T5, T6, T7⟩, Hb, Ha, ⟨I0, I1, I2⟩, ⟨K0, K1, K2⟩, ⟨R0, R1, R2⟩, Hx, Hs, Hp, Hc, Hw, Hk⟩
  iapply (bind_intro c)
  iapply (part1_spec m ρ K c)
  isplitr; · iexact HC
  isplitl [HO]; · iexact HO
  isplitl [T1]; · iexact T1
  isplitl [T2]; · iexact T2
  isplitl [T3]; · iexact T3
  isplitl [T4]; · iexact T4
  isplitl [T5]; · iexact T5
  iintro %a %b HO
  iapply (bind_intro c)
  iapply (part2_spec (a₁ := a) (a₂ := b) m ρ K c)
  isplitr; · iexact HC
  isplitl [HO]; · iexact HO
  isplitl [T6]; · iexact T6
  isplitl [T7]; · iexact T7
  isplitl [Hb]; · iexact Hb
  isplitl [Ha]; · iexact Ha
  isplitl [I0]; · iexact I0
  isplitl [K0]; · iexact K0
  isplitl [R0]; · iexact R0
  isplitl [I1]; · iexact I1
  isplitl [K1]; · iexact K1
  isplitl [R1]; · iexact R1
  isplitl [I2]; · iexact I2
  isplitl [K2]; · iexact K2
  isplitl [R2]; · iexact R2
  isplitl [Hx]; · iexact Hx
  iintro ⟨HO, Hb, Hpay, B0, B1, B2, Hx⟩
  ihave Hp := Hp $$ Hpay
  icases Hp with ⟨⟨S1, S2, S3, S4, S5, S6, S7⟩, HW⟩
  iapply (bind_intro c)
  iapply (part3_spec m ρ K c)
  isplitr; · iexact HC
  isplitl [HO]; · iexact HO
  isplitl [Hs]; · iexact Hs
  isplitl [S1]; · iexact S1
  isplitl [S2]; · iexact S2
  iintro %a1 %b1 ⟨HO, C1, C2, X0, X3, X4, X5, X6, X7⟩
  iapply (bind_intro c)
  iapply (part4_spec (a₁ := a1) (a₂ := b1) m ρ K c)
  isplitr; · iexact HC
  isplitl [HO]; · iexact HO
  isplitl [S3]; · iexact S3
  isplitl [X3]; · iexact X3
  isplitl [S4]; · iexact S4
  isplitl [X4]; · iexact X4
  isplitl [S5]; · iexact S5
  isplitl [X5]; · iexact X5
  iintro %a2 ⟨HO, C3, C4, C5⟩
  iapply (bind_intro c)
  iapply (part5_spec (a₁ := a2) m ρ K c (preRW m ρ c))
  isplitr; · iexact HC
  isplitl [HO]; · iexact HO
  isplitl [S6]; · iexact S6
  isplitl [X6]; · iexact X6
  isplitl [S7]; · iexact S7
  isplitl [X7]; · iexact X7
  isplitl [X0]; · iexact X0
  isplitl [Hc]; · iexact Hc
  isplitl [Hw]; · iexact Hw
  iintro ⟨HO, C6, C7, X0, D0, HR⟩
  iapply Hk
  isplitl [HO]; · iexact HO
  isplitl [Hb]; · iexact Hb
  isplitl [B0 B1 B2]
  · isplitl [B0]; · iexact B0
    isplitl [B1]; · iexact B1
    iexact B2
  isplitl [HW]; · iexact HW
  isplitl [Hx]; · iexact Hx
  isplitl [C1 C2 C3 C4 C5 C6 C7]
  · isplitl [C1]; · iexact C1
    isplitl [C2]; · iexact C2
    isplitl [C3]; · iexact C3
    isplitl [C4]; · iexact C4
    isplitl [C5]; · iexact C5
    isplitl [C6]; · iexact C6
    iexact C7
  isplitl [X0]; · iexact X0
  isplitl [D0]; · iexact D0
  iexact HR

end Cert.Run

end
-- ==== Proof.Share.lean ====
/- One device's share of the launch: its tokens, positions, credits and buffers, sorted for the body before it runs and
   gathered again after. -/
module

public import proofs.«01_k».proof.Proof.Stretch

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 36 → ℕ)

/-! ## Families over the seven other devices -/

/-- The seven places after a device. -/
def S7 : Finset ℕ := Finset.Icc 1 7

omit [FloatOps F] in
theorem bigSep_S7 (Ψ : ℕ → sProp 𝕄) : bigSep S7 Ψ = iprop(Ψ 1 ∗ Ψ 2 ∗ Ψ 3 ∗ Ψ 4 ∗ Ψ 5 ∗ Ψ 6 ∗ Ψ 7) :=
  bigSep_eq_bigSepL_of_eq [1, 2, 3, 4, 5, 6, 7] (by decide) (by decide) Ψ

omit [FloatOps F] in
theorem ring_all (c : Dev nD) (Φ : Dev nD → sProp 𝕄) : bigSep Finset.univ Φ = iprop(Φ c ∗ bigSep S7 fun r => Φ (nx c r)) := by
  rw [around c, bigSep_S7]
omit [FloatOps F] in
theorem ring_back (c : Dev nD) (Φ : Dev nD → sProp 𝕄) : bigSep Finset.univ Φ = iprop(Φ c ∗ bigSep S7 fun r => Φ (pv c r)) := by
  rw [around_back c, bigSep_S7]
omit [FloatOps F] in
/-- The other devices are the seven places after `c`, and the seven places before. -/
theorem ring_rest (c : Dev nD) (Φ : Dev nD → sProp 𝕄) : bigSep (Finset.univ.erase c) Φ = bigSep S7 fun r => Φ (nx c r) := by
  rw [bigSep_S7]
  exact bigSep_eq_bigSepL_of_eq [nx c 1, nx c 2, nx c 3, nx c 4, nx c 5, nx c 6, nx c 7] (by revert c; decide) (by revert c; decide) Φ
omit [FloatOps F] in
theorem back_rest (c : Dev nD) (Φ : Dev nD → sProp 𝕄) : bigSep (Finset.univ.erase c) Φ = bigSep S7 fun r => Φ (pv c r) := by
  rw [bigSep_S7]
  exact bigSep_eq_bigSepL_of_eq [pv c 1, pv c 2, pv c 3, pv c 4, pv c 5, pv c 6, pv c 7] (by revert c; decide) (by revert c; decide) Φ

/-! ## The tokens -/

/-- The tokens device `c` pays with, `r` places on: the barrier signal's, the data send's two, the maxima's two, and the
    token of the `r`-th weight copy. At `r = 0` only the last is used. -/
def tokOf (c : Dev nD) (r : Fin 8) (k : Fin 6) : GSem nD τ sig × ℕ × Dev nD :=
  match k with
  | 0 => (cell (nx c r.val) .bar, 0, c)
  | 1 => (cell c (.snd (nx c r.val)), 0, c)
  | 2 => (cell (nx c r.val) (.rcv c), 0, c)
  | 3 => (cell c (.asd (nx c r.val)), 0, c)
  | 4 => (cell (nx c r.val) (.arc c), 0, c)
  | 5 => (cell c (.w ⟨r.val % 3, Nat.mod_lt _ (by decide)⟩), r.val / 3, c)

def tok (t : GSem nD τ sig × ℕ × Dev nD) : sProp 𝕄 := dutyTok ER t.1 t.2.1 t.2.2

def toks (c : Dev nD) : sProp 𝕄 := bigSep Finset.univ fun p : Fin 8 × Fin 6 => tok (tokOf c p.1 p.2)

def sigK (c : Dev nD) (r : ℕ) : sProp 𝕄 := dutyTok ER (cell (nx c r) .bar) 0 c
def sendK (c : Dev nD) (r : ℕ) : sProp 𝕄 := iprop(dutyTok ER (cell c (.snd (nx c r))) 0 c ∗ dutyTok ER (cell (nx c r) (.rcv c)) 0 c)
def amaxK (c : Dev nD) (r : ℕ) : sProp 𝕄 := iprop(dutyTok ER (cell c (.asd (nx c r))) 0 c ∗ dutyTok ER (cell (nx c r) (.arc c)) 0 c)
def wK (c : Dev nD) (j : Fin 8) : sProp 𝕄 := wtok c ⟨j.val % 3, Nat.mod_lt _ (by decide)⟩ (j.val / 3)

omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem place_all (Ψ : ℕ → sProp 𝕄) : bigSep Finset.univ (fun r : Fin 8 => Ψ r.val) = iprop(Ψ 0 ∗ bigSep S7 Ψ) := by
  rw [eight, bigSep_S7]; rfl

omit [FloatOps F] in
theorem pairs (A B C D E G : sProp 𝕄) : iprop(A ∗ B ∗ C ∗ D ∗ E ∗ G) = iprop(A ∗ (B ∗ C) ∗ (D ∗ E) ∗ G) := by
  have h1 : iprop(A ∗ B ∗ C ∗ D ∗ E ∗ G) ⊢ iprop(A ∗ (B ∗ C) ∗ (D ∗ E) ∗ G) := by
    iintro ⟨A, B, C, D, E, G⟩
    isplitl [A]; · iexact A
    isplitl [B C]
    · isplitl [B]; · iexact B
      iexact C
    isplitl [D E]
    · isplitl [D]; · iexact D
      iexact E
    iexact G
  have h2 : iprop(A ∗ (B ∗ C) ∗ (D ∗ E) ∗ G) ⊢ iprop(A ∗ B ∗ C ∗ D ∗ E ∗ G) := by
    iintro ⟨A, ⟨B, C⟩, ⟨D, E⟩, G⟩
    isplitl [A]; · iexact A
    isplitl [B]; · iexact B
    isplitl [C]; · iexact C
    isplitl [D]; · iexact D
    isplitl [E]; · iexact E
    iexact G
  exact Entails.antisymm h1 h2

omit [FloatOps F] in
/-- The tokens by use. -/
theorem toks_split (c : Dev nD) : toks (F := F) c ⊢ iprop(bigSep S7 (sigK c) ∗ bigSep S7 (sendK c) ∗ bigSep S7 (amaxK c) ∗ bigSep Finset.univ (wK c)) := by
  have e : toks (F := F) c = bigSep Finset.univ fun r : Fin 8 => iprop(sigK c r.val ∗ sendK c r.val ∗ amaxK c r.val ∗ wK c r) := by
    unfold toks
    rw [bigSep_univ_prod]
    refine bigSep_congr fun r _ => ?_
    rw [six]
    exact pairs ..
  rw [e, bigSep_sep', bigSep_sep', bigSep_sep', place_all (sigK c), place_all (sendK c), place_all (amaxK c)]
  iintro ⟨⟨-, A⟩, ⟨-, B⟩, ⟨-, C⟩, D⟩
  isplitl [A]; · iexact A
  isplitl [B]; · iexact B
  isplitl [C]; · iexact C
  iexact D

/-! ## The 36 semaphores by use -/

/-- A use at each place of the order. -/
def useOf : Unit ⊕ Fin 3 ⊕ Fin 8 ⊕ Fin 8 ⊕ Fin 8 ⊕ Fin 8 → Fin 36
  | .inl _ => idx .bar
  | .inr (.inl s) => idx (.w s)
  | .inr (.inr (.inl t)) => idx (.snd t)
  | .inr (.inr (.inr (.inl t))) => idx (.rcv t)
  | .inr (.inr (.inr (.inr (.inl t)))) => idx (.asd t)
  | .inr (.inr (.inr (.inr (.inr t)))) => idx (.arc t)

def useEquiv : Unit ⊕ Fin 3 ⊕ Fin 8 ⊕ Fin 8 ⊕ Fin 8 ⊕ Fin 8 ≃ Fin 36 :=
  Equiv.ofBijective useOf ((Fintype.bijective_iff_injective_and_card _).2 ⟨by decide, by decide⟩)

omit [FloatOps F] in
theorem uses (Φ : Fin 36 → sProp 𝕄) : bigSep Finset.univ Φ = iprop(Φ (idx .bar) ∗ bigSep Finset.univ (fun s => Φ (idx (.w s)))
    ∗ bigSep Finset.univ (fun t => Φ (idx (.snd t))) ∗ bigSep Finset.univ (fun t => Φ (idx (.rcv t)))
    ∗ bigSep Finset.univ (fun t => Φ (idx (.asd t))) ∗ bigSep Finset.univ (fun t => Φ (idx (.arc t)))) := by
  rw [bigSep_univ_equiv useEquiv Φ, bigSep_univ_sum, bigSep_univ_sum, bigSep_univ_sum, bigSep_univ_sum, bigSep_univ_sum,
    bigSep_univ_eq_bigSepL [()] (by decide) (by decide)]
  rfl

/-- Device `c`'s positions at launch, its semaphores at the end, its credits at launch. -/
def ats (c : Dev nD) : sProp 𝕄 := bigSep Finset.univ fun k : Fin 36 => atPos ER (kcell (c, k)) 0 ∅ 0
def sems (c : Dev nD) : sProp 𝕄 := bigSep Finset.univ fun k : Fin 36 => semVal (kcell (c, k)) 0
def creds (c : Dev nD) : sProp 𝕄 :=
  iprop(cred (tallyAt (cell c .bar) () 7) ∗ bigSep (Finset.univ.erase c) (fun j => cred (tallyAt (cell c (.rcv j)) () N1))
    ∗ bigSep (Finset.univ.erase c) (fun j => cred (tallyAt (cell c (.arc j)) () N2)))

omit [FloatOps F] in
/-- The positions by use, the device's own places first. -/
theorem ats_split (c : Dev nD) : ats (F := F) c ⊢ iprop(atPos ER (cell c .bar) 0 ∅ 0 ∗ bigSep Finset.univ (fun s => atPos ER (cell c (.w s)) 0 ∅ 0)
    ∗ (atPos ER (cell c (.snd c)) 0 ∅ 0 ∗ preP c) ∗ bigSep Finset.univ (fun t => atPos ER (cell c (.rcv t)) 0 ∅ 0)
    ∗ (atPos ER (cell c (.asd c)) 0 ∅ 0 ∗ preG c) ∗ (atPos ER (cell c (.arc c)) 0 ∅ 0 ∗ bigSep S7 fun r => atPos ER (cell c (.arc (pv c r))) 0 ∅ 0)) := by
  unfold ats
  rw [uses, ring_all c (fun t => atPos ER (kcell (c, idx (.snd t))) 0 ∅ 0), ring_all c (fun t => atPos ER (kcell (c, idx (.asd t))) 0 ∅ 0),
    ring_back c (fun t => atPos ER (kcell (c, idx (.arc t))) 0 ∅ 0), bigSep_S7, bigSep_S7]
  exact BIBase.Entails.rfl

/-! ## Sorting for the body -/

omit [FloatOps F] in
/-- The free landing places a device hands out with its signals, its own kept. -/
theorem signals_ready (c : Dev nD) : iprop(bigSep S7 (sigK c) ∗ (∃ f, bufP c cc0_scratch1 f) ∗ (∃ f, bufP c cc0_scratch3 f))
    ⊢ iprop(preSig (F := F) c ∗ (∃ f, xcol c c f) ∗ ∃ f, amr c c fullShare f) := by
  have e : preSig (F := F) c = bigSep S7 (fun r => iprop(sigK c r ∗ barPay (nx c r) c)) := (bigSep_S7 _).symm
  have h1 : iprop(∃ f, bufP (F := F) c cc0_scratch1 f) ⊢ bigSep Finset.univ (fun d : Dev nD => iprop(∃ f, xcol c d f)) := by
    iintro ⟨%f, H⟩
    iapply (show bufP (F := F) c cc0_scratch1 f ⊢ bigSep Finset.univ (fun d : Dev nD => iprop(∃ f, xcol c d f)) from
      (Entails.of_eq (cols_eq c f)).trans (bigSep_mono fun d _ => Laws.exists_intro (Φ := fun f => xcol c d f) f))
    iexact H
  have h2 : iprop(∃ f, bufP (F := F) c cc0_scratch3 f) ⊢ bigSep Finset.univ (fun d : Dev nD => iprop(∃ f, amr c d fullShare f)) := by
    iintro ⟨%f, H⟩
    iapply (show bufP (F := F) c cc0_scratch3 f ⊢ bigSep Finset.univ (fun d : Dev nD => iprop(∃ f, amr c d fullShare f)) from
      (Entails.of_eq (ams_eq c fullShare f)).trans (bigSep_mono fun d _ => Laws.exists_intro (Φ := fun f => amr c d fullShare f) f))
    iexact H
  rw [e, bigSep_sep']
  refine (sep_mono_right (sep_mono_left h1)).trans ((sep_mono_right (sep_mono_right h2)).trans ?_)
  rw [ring_all c (fun d => iprop(∃ f, xcol c d f)), ring_all c (fun d => iprop(∃ f, amr c d fullShare f))]
  have e2 : bigSep S7 (fun r => barPay (F := F) (nx c r) c) = iprop(bigSep S7 (fun r => iprop(∃ f, xcol c (nx c r) f)) ∗ bigSep S7 (fun r => iprop(∃ f, amr c (nx c r) fullShare f))) :=
    bigSep_sep' ..
  rw [e2]
  iintro ⟨A, ⟨B, C⟩, D, E⟩
  isplitl [A C E]
  · isplitl [A]; · iexact A
    isplitl [C]; · iexact C
    iexact E
  isplitl [B]; · iexact B
  iexact D

omit [FloatOps F] in
theorem regive (c : Dev nD) (r : ℕ) : iprop(sendK (F := F) c r ∗ amaxK c r ∗ barPay c (nx c r)) ⊢ iprop(sendT c r ∗ amaxT c r) := by
  unfold sendK amaxK barPay sendT amaxT
  iintro ⟨⟨A, B⟩, ⟨C, D⟩, E, G⟩
  isplitl [A B E]
  · isplitl [A]; · iexact A
    isplitl [B]; · iexact B
    iexact E
  isplitl [C]; · iexact C
  isplitl [D]; · iexact D
  iexact G

omit [FloatOps F] in
/-- With the landing places the signals brought, every send is ready. -/
theorem sends_ready (c : Dev nD) : iprop(bigSep S7 (sendK c) ∗ bigSep S7 (amaxK c) ∗ bigSep (Finset.univ.erase c) (barPay c)) ⊢ iprop(preS (F := F) c ∗ preT c) := by
  have e1 : preS (F := F) c = bigSep S7 (sendT c) := (bigSep_S7 _).symm
  have e2 : preT (F := F) c = bigSep S7 (amaxT c) := (bigSep_S7 _).symm
  rw [e1, e2, ring_rest c, ← bigSep_sep', ← bigSep_sep', ← bigSep_sep']
  refine bigSep_mono fun r _ => ?_
  exact regive c r

/-- With its own column block stored, every column block is there or on its way. -/
theorem waits_ready (c : Dev nD) : iprop(bigSep (Finset.univ.erase c) (fun j => cred (tallyAt (cell c (.rcv j)) () N1)) ∗ bigSep Finset.univ (fun t => atPos ER (cell c (.rcv t)) 0 ∅ 0))
    ⊢ iprop(xcol c c (xg m ρ c) -∗ (rWait m ρ c 0 ∗ preRW m ρ c)) := by
  have e : iprop(rWait m ρ c 0 ∗ preRW m ρ c) = iprop(bigSep Finset.univ (fun j => rIn m ρ c j) ∗ bigSep Finset.univ (fun t => atPos ER (cell c (.rcv t)) 0 ∅ 0)) :=
    (eight (rWait m ρ c)).symm.trans (bigSep_sep' ..)
  have e2 : bigSep Finset.univ (fun j : Dev nD => rIn m ρ c j) = iprop(xcol c c (xg m ρ c) ∗ bigSep (Finset.univ.erase c) (fun j => cred (tallyAt (cell c (.rcv j)) () N1))) := by
    rw [BI.bigSep_erase (Finset.mem_univ c), show rIn m ρ c c = xcol c c (xg m ρ c) from if_pos rfl,
      bigSep_congr (fun j hj => show rIn m ρ c j = cred (tallyAt (cell c (.rcv j)) () N1) from if_neg (Finset.ne_of_mem_erase hj))]
    rfl
  rw [e, show (bigSep Finset.univ (fun j : Fin 8 => rIn m ρ c j)) = _ from e2]
  iintro ⟨A, B⟩ C
  isplitl [A C]
  · isplitl [C]; · iexact C
    iexact A
  iexact B

omit [FloatOps F] in
theorem amaxes_ready (c : Dev nD) : iprop(bigSep (Finset.univ.erase c) (fun j => cred (tallyAt (cell c (.arc j)) () N2)) ∗ bigSep S7 (fun r => atPos ER (cell c (.arc (pv c r))) 0 ∅ 0)) ⊢ preW (F := F) c := by
  rw [back_rest c, ← bigSep_sep', bigSep_S7]; exact BIBase.Entails.rfl

/-- The three weight slots before their first copies. -/
theorem slots_ready (c : Dev nD) : iprop(ctx m ρ K ∗ bigSep Finset.univ (fun s => atPos ER (cell c (.w s)) 0 ∅ 0) ∗ (∃ f, bufP c cc0_scratch2 f)) ⊢ preI (F := F) c := by
  have h : iprop(∃ f, bufP (F := F) c cc0_scratch2 f) ⊢ bigSep Finset.univ (fun d => iprop(∃ f, wsl c d f)) := by
    iintro ⟨%f, H⟩
    iapply (show bufP (F := F) c cc0_scratch2 f ⊢ bigSep Finset.univ (fun d => iprop(∃ f, wsl c d f)) from
      (Entails.of_eq (slots_eq c f)).trans (bigSep_mono fun d _ => Laws.exists_intro (Φ := fun f => wsl c d f) f))
    iexact H
  refine (sep_mono_right (sep_mono_right h)).trans ?_
  unfold preI wIdle
  rw [three, three]
  iintro ⟨#HC, ⟨A0, A1, A2⟩, B0, B1, B2⟩
  isplitl [A0 B0]
  · isplitl [A0]; · iexact A0
    isplitr; · iapply (reached_at m ρ K c (.w 0)); iexact HC
    iexact B0
  isplitl [A1 B1]
  · isplitl [A1]; · iexact A1
    isplitr; · iapply (reached_at m ρ K c (.w 1)); iexact HC
    iexact B1
  isplitl [A2]; · iexact A2
  isplitr; · iapply (reached_at m ρ K c (.w 2)); iexact HC
  iexact B2

omit [FloatOps F] in
theorem wtoks_ready (c : Dev nD) : bigSep Finset.univ (wK c) ⊢ iprop(preK0 (F := F) c ∗ preK c) := by
  refine BIBase.Entails.trans (Entails.of_eq (show bigSep Finset.univ (wK (F := F) c) = iprop(wtok c 0 0 ∗ wtok c 1 0 ∗ wtok c 2 0 ∗ wtok c 0 1 ∗ wtok c 1 1 ∗ wtok c 2 1
    ∗ wtok c 0 2 ∗ wtok c 1 2) from eight _)) ?_
  unfold preK0 preK
  iintro ⟨A0, A1, A2, A3, A4, A5, A6, A7⟩
  isplitl [A0 A1 A2]
  · isplitl [A0]; · iexact A0
    isplitl [A1]; · iexact A1
    iexact A2
  isplitl [A3]; · iexact A3
  isplitl [A4]; · iexact A4
  isplitl [A5]; · iexact A5
  isplitl [A6]; · iexact A6
  iexact A7

omit [FloatOps F] in
theorem weights_ready (c : Dev nD) : bufP c main_arg1 (wv m c) ⊢ iprop(preR0 (F := F) m c ∗ preR m c) := by
  rw [wrows_eq, eight]
  unfold preR0 preR
  iintro ⟨A0, A1, A2, A3, A4, A5, A6, A7⟩
  isplitl [A0 A1 A2]
  · isplitl [A0]; · iexact A0
    isplitl [A1]; · iexact A1
    iexact A2
  isplitl [A3]; · iexact A3
  isplitl [A4]; · iexact A4
  isplitl [A5]; · iexact A5
  isplitl [A6]; · iexact A6
  iexact A7

/-! ## Gathering after the body -/

/-- The rounded rows back, and the data sends' semaphores. -/
theorem rows_back (c : Dev nD) : iprop(xrow c c (xb m ρ c) ∗ postE m ρ c) ⊢ iprop((∃ f, bufP c cc0_scratch0 f) ∗ bigSep S7 fun r => semVal (cell c (.snd (nx c r))) 0) := by
  have e : postE m ρ c = bigSep S7 (fun r => iprop(semVal (cell c (.snd (nx c r))) 0 ∗ xrow c (nx c r) (xb m ρ c))) := (bigSep_S7 _).symm
  rw [e, bigSep_sep']
  iintro ⟨A, B, C⟩
  isplitl [A C]
  · iexists (xb m ρ c)
    iapply (Entails.of_eq ((rows_eq c (xb m ρ c)).trans (ring_all c fun t => xrow c t (xb m ρ c))).symm)
    isplitl [A]; · iexact A
    iexact C
  iexact B

/-- The gathered rows, and the arrivals' semaphores. -/
theorem cols_back (c : Dev nD) : postRD m ρ c ⊢ iprop((∃ f, bufP c cc0_scratch1 f) ∗ bigSep Finset.univ fun t => semVal (cell c (.rcv t)) 0) := by
  have e : postRD m ρ c = bigSep Finset.univ (fun j => iprop(semVal (cell c (.rcv j)) 0 ∗ xcol c j (xg m ρ c))) := (eight _).symm
  rw [e, bigSep_sep']
  iintro ⟨A, B⟩
  isplitl [B]
  · iexists (xg m ρ c)
    iapply (Entails.of_eq (cols_eq c (xg m ρ c)).symm)
    iexact B
  iexact A

/-- The weight slots, and their positions. -/
theorem slots_back (c : Dev nD) : postF m c ⊢ iprop((∃ f, bufP (F := F) c cc0_scratch2 f) ∗ atPos ER (cell c (.w 0)) 3 ∅ 0 ∗ atPos ER (cell c (.w 1)) 3 ∅ 0 ∗ atPos ER (cell c (.w 2)) 2 ∅ 0) := by
  unfold postF wFull
  iintro ⟨⟨⟨A0, -⟩, B0⟩, ⟨⟨A1, -⟩, B1⟩, ⟨A2, -⟩, B2⟩
  isplitl [B0 B1 B2]
  · iapply (slots_join c (ws m c 6))
    iapply (Entails.of_eq (three _).symm)
    isplitl [B0]; · iexists _; iexact B0
    isplitl [B1]; · iexists _; iexact B1
    iexists _; iexact B2
  isplitl [A0]; · iexact A0
  isplitl [A1]; · iexact A1
  iexact A2

/-- The weights back. -/
theorem weights_back (c : Dev nD) : postR m c ⊢ bufP (F := F) c main_arg1 (wv m c) :=
  Entails.of_eq ((wrows_eq m c).trans (eight _)).symm

/-- The maxima back, and the semaphores of their sends and arrivals. -/
theorem ams_back (c : Dev nD) : iprop(amr c c (keep 7) (am m ρ) ∗ postH m ρ c ∗ postD m ρ c) ⊢ iprop((∃ f, bufP c cc0_scratch3 f)
    ∗ (bigSep S7 fun r => semVal (cell c (.asd (nx c r))) 0) ∗ bigSep S7 fun r => semVal (cell c (.arc (pv c r))) 0) := by
  have e1 : postH m ρ c = bigSep S7 (fun r => iprop(semVal (cell c (.asd (nx c r))) 0 ∗ amr c c (lend (r - 1)) (am m ρ))) := (bigSep_S7 _).symm
  have e2 : postD m ρ c = bigSep S7 (fun r => iprop(semVal (cell c (.arc (pv c r))) 0 ∗ amr c (pv c r) fullShare (am m ρ))) := (bigSep_S7 _).symm
  have e3 : bigSep S7 (fun r => amr c c (lend (r - 1)) (am m ρ)) ⊢ lent c c (am m ρ) 7 := by
    rw [bigSep_S7]
    unfold lent lent lent lent lent lent lent lent
    iintro ⟨A1, A2, A3, A4, A5, A6, A7⟩
    isplitl [A1 A2 A3 A4 A5 A6]
    · isplitl [A1 A2 A3 A4 A5]
      · isplitl [A1 A2 A3 A4]
        · isplitl [A1 A2 A3]
          · isplitl [A1 A2]
            · isplitl [A1]
              · isplitr; · iempintro
                iexact A1
              iexact A2
            iexact A3
          iexact A4
        iexact A5
      iexact A6
    iexact A7
  rw [e1, e2, bigSep_sep', bigSep_sep']
  iintro ⟨A, ⟨B, C⟩, D, E⟩
  isplitl [A C E]
  · iexists (am m ρ)
    iapply (Entails.of_eq (show bufP c cc0_scratch3 (am m ρ) = _ from (ams_eq c fullShare (am m ρ)).trans (ring_back c fun t => amr c t fullShare (am m ρ))).symm)
    isplitl [A C]
    · iapply (amr_lent c c (am m ρ) 7).1
      isplitl [A]; · iexact A
      iapply e3; iexact C
    iexact E
  isplitl [B]; · iexact B
  iexact D

theorem over_w (c : Dev nD) (s : Fin 3) (R : ℕ) (h : 8 ≤ 3 * R + s.val) : ∀ r, R ≤ r → duty c (.w s) r = ∅ := fun r hr =>
  if_neg (show ¬ 3 * r + s.val < 8 by omega)
theorem over_snd (c : Dev nD) : ∀ r, 0 ≤ r → duty c (.snd c) r = ∅ := fun r _ => if_neg fun h => h.2 rfl
theorem over_asd (c : Dev nD) : ∀ r, 0 ≤ r → duty c (.asd c) r = ∅ := fun r _ => if_neg fun h => h.2 rfl
theorem over_arc (c : Dev nD) : ∀ r, 0 ≤ r → duty c (.arc c) r = ∅ := fun r _ => if_neg fun h => h.2 rfl

/-- The cells nobody pays any more are closed: every semaphore of the device is back at zero. -/
theorem sems_back (c : Dev nD) : iprop(ctx m ρ K ∗ semVal (cell c .bar) 0 ∗ (atPos ER (cell c (.w 0)) 3 ∅ 0 ∗ atPos ER (cell c (.w 1)) 3 ∅ 0 ∗ atPos ER (cell c (.w 2)) 2 ∅ 0)
      ∗ (atPos ER (cell c (.snd c)) 0 ∅ 0 ∗ bigSep S7 fun r => semVal (cell c (.snd (nx c r))) 0) ∗ bigSep Finset.univ (fun t => semVal (cell c (.rcv t)) 0)
      ∗ (atPos ER (cell c (.asd c)) 0 ∅ 0 ∗ bigSep S7 fun r => semVal (cell c (.asd (nx c r))) 0)
      ∗ (atPos ER (cell c (.arc c)) 0 ∅ 0 ∗ bigSep S7 fun r => semVal (cell c (.arc (pv c r))) 0))
    ⊢ (iprop(|={Set.univ}=> sems c) : sProp 𝕄) := by
  iintro ⟨#HC, B, ⟨W0, W1, W2⟩, ⟨S0, S⟩, R, ⟨T0, T⟩, U0, U⟩
  imod (close_step m ρ K c (k := .w 0) (fun h => by cases h) 3 (over_w c 0 3 (by decide))) $$ [W0] with W0
  · isplitr; · iexact HC
    iexact W0
  imod (close_step m ρ K c (k := .w 1) (fun h => by cases h) 3 (over_w c 1 3 (by decide))) $$ [W1] with W1
  · isplitr; · iexact HC
    iexact W1
  imod (close_step m ρ K c (k := .w 2) (fun h => by cases h) 2 (over_w c 2 2 (by decide))) $$ [W2] with W2
  · isplitr; · iexact HC
    iexact W2
  imod (close_step m ρ K c (k := .snd c) (fun h => by cases h) 0 (over_snd c)) $$ [S0] with S0
  · isplitr; · iexact HC
    iexact S0
  imod (close_step m ρ K c (k := .asd c) (fun h => by cases h) 0 (over_asd c)) $$ [T0] with T0
  · isplitr; · iexact HC
    iexact T0
  imod (close_step m ρ K c (k := .arc c) (fun h => by cases h) 0 (over_arc c)) $$ [U0] with U0
  · isplitr; · iexact HC
    iexact U0
  imodintro
  unfold sems
  iapply (Entails.of_eq (show _ = (bigSep Finset.univ fun k : Fin 36 => semVal (kcell (c, k)) 0 : sProp 𝕄) from (uses (fun k => semVal (kcell (c, k)) 0)).symm))
  isplitl [B]; · iexact B
  isplitl [W0 W1 W2]
  · iapply (Entails.of_eq (three _).symm)
    isplitl [W0]; · iexact W0
    isplitl [W1]; · iexact W1
    iexact W2
  isplitl [S0 S]
  · iapply (Entails.of_eq (ring_all c (fun t => semVal (kcell (c, idx (.snd t))) 0)).symm)
    isplitl [S0]; · iexact S0
    iexact S
  isplitl [R]; · iexact R
  isplitl [T0 T]
  · iapply (Entails.of_eq (ring_all c (fun t => semVal (kcell (c, idx (.asd t))) 0)).symm)
    isplitl [T0]; · iexact T0
    iexact T
  iapply (Entails.of_eq (ring_back c (fun t => semVal (kcell (c, idx (.arc t))) 0)).symm)
  isplitl [U0]; · iexact U0
  iexact U

/-! ## The body -/

/-- The buffers, the semaphores and the result a device is left with. -/
def left (c : Dev nD) : sProp 𝕄 := iprop(owing c 0 ∗ bufP c main_arg1 (wv m c) ∗ (∃ f, bufP c cc0_scratch0 f) ∗ (∃ f, bufP c cc0_scratch1 f)
  ∗ (∃ f, bufP c cc0_scratch2 f) ∗ (∃ f, bufP c cc0_scratch3 f) ∗ bufP c cc0_stg0_0 (xstg m ρ c) ∗ bufP c cc0_stg1_0 (outAt m ρ c) ∗ sems c)

/-- One device's run of the kernel's body, from its share of the launch to every buffer and semaphore back. -/
theorem body_run (c : Dev nD) {Q} :
    iprop(ctx m ρ K ∗ owing c 21 ∗ toks c ∗ ats c ∗ creds c ∗ bufP c main_arg1 (wv m c) ∗ (∃ f, bufP c cc0_scratch0 f) ∗ (∃ f, bufP c cc0_scratch1 f)
        ∗ (∃ f, bufP c cc0_scratch2 f) ∗ (∃ f, bufP c cc0_scratch3 f) ∗ bufP c cc0_stg0_0 (xstg m ρ c) ∗ (∃ f, bufP c cc0_stg1_0 f)
        ∗ (left m ρ c -∗ Q ⟨⟩)) ⊢ WP c (Pbody (F := F)) Q := by
  refine BIBase.Entails.trans ?_ (wp_fupd frame (wpE (defs₀ (F := F)) 𝒱₀ (c : Thread nD τ) none) Set.univ _ _)
  show _ ⊢ WP c (Pbody (F := F)) (fun a => iprop(|={Set.univ}=> Q a))
  unfold creds
  iintro ⟨#HC, HO, Ht, Ha, ⟨Cb, Cr, Ca⟩, Hw, H0, H1, H2, H3, Hx, Ho, Hk⟩
  ihave Ht := (toks_split c) $$ Ht
  icases Ht with ⟨Kb, Ks, Km, Kw⟩
  ihave Ha := (ats_split c) $$ Ha
  icases Ha with ⟨Ab, Aw, ⟨As0, As⟩, Ar, ⟨Am0, Am⟩, An0, An⟩
  ihave Hsig := (signals_ready c) $$ [Kb H1 H3]
  · isplitl [Kb]; · iexact Kb
    isplitl [H1]; · iexact H1
    iexact H3
  icases Hsig with ⟨Hsig, Hc, Hm⟩
  ihave HI := (slots_ready m ρ K c) $$ [Aw H2]
  · isplitr; · iexact HC
    isplitl [Aw]; · iexact Aw
    iexact H2
  ihave Kw := (wtoks_ready c) $$ Kw
  icases Kw with ⟨Kw0, Kw⟩
  ihave Hw := (weights_ready m c) $$ Hw
  icases Hw with ⟨Hw0, Hw⟩
  ihave HW := (amaxes_ready c) $$ [Ca An]
  · isplitl [Ca]; · iexact Ca
    iexact An
  iapply (stretchA_spec m ρ K c (preT c))
  isplitr; · iexact HC
  isplitl [HO]; · iexact HO
  isplitl [Hsig]; · iexact Hsig
  isplitl [Cb]; · iexact Cb
  isplitl [Ab]; · iexact Ab
  isplitl [HI]; · iexact HI
  isplitl [Kw0]; · iexact Kw0
  isplitl [Hw0]; · iexact Hw0
  isplitl [Hx]; · iexact Hx
  isplitl [H0]; · iexact H0
  isplitl [Ks Km]
  · iintro Hp
    iapply (sends_ready c)
    isplitl [Ks]; · iexact Ks
    isplitl [Km]; · iexact Km
    iexact Hp
  isplitl [Hc]; · iexact Hc
  isplitl [Cr Ar]
  · iapply (waits_ready m ρ c)
    isplitl [Cr]; · iexact Cr
    iexact Ar
  iintro ⟨HO, Hb, HB, HT, Hx, HS, HX, HD, HR⟩
  iapply (stretchB_spec m ρ K c)
  isplitr; · iexact HC
  isplitl [HO]; · iexact HO
  isplitl [HD]; · iexact HD
  isplitl [Hm]; · iexact Hm
  isplitl [Ho]; · iexact Ho
  isplitl [HB]; · iexact HB
  isplitl [HR]; · iexact HR
  isplitl [Kw]; · iexact Kw
  isplitl [Hw]; · iexact Hw
  iintro %w ⟨HO, Hm, Ho, HF, HD, Hw⟩
  iapply (stretchC_spec m ρ K c w)
  isplitr; · iexact HC
  isplitl [HO]; · iexact HO
  isplitl [Hm]; · iexact Hm
  isplitl [Ho]; · iexact Ho
  isplitl [HT]; · iexact HT
  isplitl [HW]; · iexact HW
  isplitl [HS]; · iexact HS
  isplitl [As]; · iexact As
  isplitl [Am]; · iexact Am
  iintro ⟨HO, Hm, Ho, HA, HE, HH⟩
  ihave H0 := (rows_back m ρ c) $$ [HX HE]
  · isplitl [HX]; · iexact HX
    iexact HE
  icases H0 with ⟨H0, Es⟩
  ihave H1 := (cols_back m ρ c) $$ HD
  icases H1 with ⟨H1, Er⟩
  ihave H2 := (slots_back m c) $$ HF
  icases H2 with ⟨H2, Ew⟩
  ihave H3 := (ams_back m ρ c) $$ [Hm HH HA]
  · isplitl [Hm]; · iexact Hm
    isplitl [HH]; · iexact HH
    iexact HA
  icases H3 with ⟨H3, Em, En⟩
  ihave Hw := (weights_back m c) $$ Hw
  imod (sems_back m ρ K c) $$ [Hb Ew As0 Es Er Am0 Em An0 En] with HS
  · isplitr; · iexact HC
    isplitl [Hb]; · iexact Hb
    isplitl [Ew]; · iexact Ew
    isplitl [As0 Es]
    · isplitl [As0]; · iexact As0
      iexact Es
    isplitl [Er]; · iexact Er
    isplitl [Am0 Em]
    · isplitl [Am0]; · iexact Am0
      iexact Em
    isplitl [An0]; · iexact An0
    iexact En
  imodintro
  iapply Hk
  unfold left
  isplitl [HO]; · iexact HO
  isplitl [Hw]; · iexact Hw
  isplitl [H0]; · iexact H0
  isplitl [H1]; · iexact H1
  isplitl [H2]; · iexact H2
  isplitl [H3]; · iexact H3
  isplitl [Hx]; · iexact Hx
  isplitl [Ho]; · iexact Ho
  iexact HS

end Cert.Run

end
-- ==== Proof.Deal.lean ====
/- The launch: the protocol's tokens minted and dealt, the credits of what is owed counted, the records allocated, and
   the run of all eight devices. -/
module

public import Idealize.ShloMosaic.Lib.Pipeline.CollectiveSegs
public import Idealize.ShloMosaic.Lib.Pipeline.Launch
public import Idealize.ShloMosaic.Adequacy
public import Idealize.ShloMosaic.Init
public import proofs.«01_k».proof.Proof.Share

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens are distinct -/

theorem csem_injective : Function.Injective csem := by decide

theorem kcell_injective : Function.Injective (kcell : Dev nD × Fin 36 → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev tokP (p : Dev nD × (Fin 8 × Fin 6)) : GSem nD τ sig × ℕ × Dev nD := tokOf p.1 p.2.1 p.2.2

/-- The use a token is for. -/
def useT (c : Dev nD) (r : Fin 8) (k : Fin 6) : Knd :=
  match k with
  | 0 => .bar
  | 1 => .snd (nx c r.val)
  | 2 => .rcv c
  | 3 => .asd (nx c r.val)
  | 4 => .arc c
  | 5 => .w ⟨r.val % 3, Nat.mod_lt _ (by decide)⟩

theorem tok_payer (c : Dev nD) (r : Fin 8) (k : Fin 6) : (tokOf c r k).2.2 = c := by fin_cases k <;> rfl
theorem tok_use (c : Dev nD) (r : Fin 8) (k : Fin 6) : kd (tokOf c r k).1.2 = useT c r k := by
  fin_cases k
  · exact kd_cell .bar (fun h => by cases h)
  · exact kd_cell (.snd (nx c r.val)) (fun h => by cases h)
  · exact kd_cell (.rcv c) (fun h => by cases h)
  · exact kd_cell (.asd (nx c r.val)) (fun h => by cases h)
  · exact kd_cell (.arc c) (fun h => by cases h)
  · exact kd_cell (.w ⟨r.val % 3, Nat.mod_lt _ (by decide)⟩) (fun h => by cases h)

theorem nx_inj (c : Dev nD) {r r' : Fin 8} (h : nx c r.val = nx c r'.val) : r = r' := (rot c).injective h

theorem tokP_injective : Function.Injective tokP := by
  rintro ⟨c, r, k⟩ ⟨c', r', k'⟩ h
  have hc : c = c' := (tok_payer c r k).symm.trans ((congrArg (fun x => x.2.2) h).trans (tok_payer c' r' k'))
  subst hc
  have hu : useT c r k = useT c r' k' := (tok_use c r k).symm.trans ((congrArg (fun x => kd x.1.2) h).trans (tok_use c r' k'))
  have hd : (tokOf c r k).1.1.1 = (tokOf c r' k').1.1.1 := congrArg (fun x => x.1.1.1) h
  have hr : (tokOf c r k).2.1 = (tokOf c r' k').2.1 := congrArg (fun x => x.2.1) h
  have key : k = k' ∧ r = r' := by
    fin_cases k <;> fin_cases k' <;> first
      | exact ⟨rfl, nx_inj c hd⟩
      | exact ⟨rfl, nx_inj c (Knd.snd.inj hu)⟩
      | exact ⟨rfl, nx_inj c (Knd.asd.inj hu)⟩
      | exact ⟨rfl, Fin.ext (by
          have e1 : r.val % 3 = r'.val % 3 := congrArg Fin.val (Knd.w.inj hu)
          have e2 : r.val / 3 = r'.val / 3 := hr
          omega)⟩
      | exact absurd hu (fun e => by cases e)
  rw [key.1, key.2]

def cells : Finset (GSem nD τ sig) := Finset.univ.map ⟨kcell, kcell_injective⟩
def minted : Finset (GSem nD τ sig × ℕ × Dev nD) := Finset.univ.map ⟨tokP, tokP_injective⟩

def u₀ : UU := (initOf (Pipeline.cells cfgs cellOf_inj) (Pipeline.launchToks cfgs cellOf_inj), initOf cells minted)

/-! ## Dealing -/

/-- What the launch deals device `c`, -/
def G (c : Dev nD) : sProp 𝕄 :=
  iprop((bigSep Finset.univ fun k : Fin 36 => roundState ER (Rd m ρ) (kcell (c, k)) 0)
    ∗ (ats c ∗ bigSep Finset.univ fun k : Fin 36 => reached ER (kcell (c, k)) 0) ∗ toks c)
/-- and what is made of it over all devices. -/
def G' (c : Dev nD) : sProp 𝕄 := iprop((∃ K, records m ρ K) ∗ ats c ∗ toks c)

theorem mint : BI.own (ER (initOf cells minted)) ⊢ (|==> bigSep Finset.univ (G m ρ) : sProp 𝕄) := by
  have hX (Φ : GSem nD τ sig → sProp 𝕄) : bigSep cells Φ = bigSep Finset.univ fun c : Dev nD => bigSep Finset.univ fun k : Fin 36 => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod]; rfl
  iintro HX
  imod (Rounds.fund ER (Rd m ρ) cells minted) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  isplitl [Hst]; · iexact Hst
  isplitl [Hat Hr]
  · isplitl [Hat] <;> iassumption
  iexact Htok

theorem ownSemFacts : Pipeline.OwnSemFacts cfg0.spec osem := by decide

theorem csem_succ (k : Fin 35) : csem k.succ = osem k := if_neg (Nat.succ_ne_zero _)

/-- The barrier first, then the kernel's own. -/
def headEquiv : Unit ⊕ Fin 35 ≃ Fin 36 :=
  Equiv.ofBijective (Sum.elim (fun _ => 0) Fin.succ) ((Fintype.bijective_iff_injective_and_card _).2 ⟨by decide, by decide⟩)

omit [FloatOps F] in
theorem unscopedSems0_eq (c : Dev nD) : (unscopedSems0 c : sProp 𝕄) = semVal (cell c .bar) 0 := by
  unfold unscopedSems0; rw [bigSep_eq_bigSepL_of_eq [SemLoc.reg barrier0] (by decide) (by decide)]; rfl

omit [FloatOps F] in
/-- The protocol's semaphores are the runtime's one and the kernel's own. -/
theorem sems_eq (c : Dev nD) : (sems c : sProp 𝕄) = iprop(unscopedSems0 c ∗ Pipeline.ownSems0 osem c) := by
  unfold sems
  rw [bigSep_univ_equiv headEquiv, bigSep_univ_sum, unscopedSems0_eq, bigSep_univ_eq_bigSepL [()] (by decide) (by decide)]
  have e : (bigSep Finset.univ fun k : Fin 35 => (semVal (kcell (c, headEquiv (.inr k))) 0 : sProp 𝕄)) = Pipeline.ownSems0 osem c :=
    bigSep_congr fun k _ => by
      show semVal ((c : Thread nD τ), csem k.succ) 0 = semVal ((c : Thread nD τ), osem k) 0
      rw [csem_succ]
  rw [e]; rfl

/-- A device's cells opened at their first round. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 36 => iprop(∃ κ : ℕ, cellInv ER (Rd m ρ) κ (kcell (c, k))))
          ∗ (ats c ∗ bigSep Finset.univ fun k : Fin 36 => reached ER (kcell (c, k)) 0) ∗ toks c) := by
  unfold G
  iintro ⟨Hos, Hus, Hst, Hat, Htok⟩
  ihave Hv := (Entails.of_eq (sems_eq (F := F) c).symm) $$ [Hos Hus]
  · isplitl [Hus] <;> iassumption
  imod (show iprop(sems c ∗ bigSep Finset.univ fun k : Fin 36 => roundState ER (Rd m ρ) (kcell (c, k)) 0)
      ⊢ (|={Set.univ}=> bigSep Finset.univ fun k : Fin 36 => iprop(∃ κ : ℕ, cellInv ER (Rd m ρ) κ (kcell (c, k))) : sProp 𝕄) from by
        unfold sems
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent fact beside a family is beside every member. -/
theorem beside {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem share_records (K : Dev nD × Fin 36 → ℕ) (c : Dev nD) : iprop(records m ρ K ∗ ats c ∗ toks c) ⊢ G' m ρ c := by
  unfold G'
  iintro ⟨H, Ha, Ht⟩
  isplitl [H]; · iexists K; iexact H
  isplitl [Ha] <;> iassumption

theorem regroup :
    (bigSep Finset.univ fun c : Dev nD => iprop((bigSep Finset.univ fun k : Fin 36 => iprop(∃ κ : ℕ, cellInv ER (Rd m ρ) κ (kcell (c, k))))
          ∗ (ats c ∗ bigSep Finset.univ fun k : Fin 36 => reached ER (kcell (c, k)) 0) ∗ toks c) : sProp 𝕄)
      ⊢ bigSep Finset.univ (G' m ρ) := by
  rw [bigSep_sep', bigSep_sep', bigSep_sep', ← bigSep_univ_prod (fun ck : Dev nD × Fin 36 => iprop(∃ κ : ℕ, cellInv ER (Rd m ρ) κ (kcell ck))),
    ← bigSep_univ_prod (fun ck : Dev nD × Fin 36 => (reached ER (kcell ck) 0 : sProp 𝕄))]
  iintro ⟨HI, ⟨Hat, HR⟩, Htok⟩
  ihave HK := (BI.bigSep_exists_pi Finset.univ (fun (ck : Dev nD × Fin 36) (κ : ℕ) => (cellInv ER (Rd m ρ) κ (kcell ck) : sProp 𝕄))) $$ HI
  icases HK with ⟨%K, HI⟩
  iapply (beside (R := records m ρ K) (fun c => share_records m ρ K c))
  isplitl [HI HR]
  · unfold records; isplitl [HI]; · iexact HI
    iexact HR
  iapply (Entails.of_eq (bigSep_sep' Finset.univ (fun c : Dev nD => (ats c : sProp 𝕄)) (fun c => toks c)).symm)
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of what is owed -/

/-- How many payments device `d` owes to device `c`'s cell of use `k`. -/
def owes1 (d c : Dev nD) (k : Knd) (i : ℕ) : ℕ := if oweD d i = c ∧ oweK d i = k then 1 else 0

theorem cell_eq_iff {d c : Dev nD} {k k' : Knd} (hk : k ≠ .none) (hk' : k' ≠ .none) : Iff (cell d k = cell c k') (d = c ∧ k = k') :=
  ⟨fun h => ⟨congrArg (fun g : GSem nD τ sig => g.1.1) h, (kd_cell k hk).symm.trans ((congrArg (fun g : GSem nD τ sig => kd g.2) h).trans (kd_cell k' hk'))⟩,
    fun h => by rw [h.1, h.2]⟩

theorem ow_apply (d c : Dev nD) {k : Knd} (hk : k ≠ .none) : ∀ n, ow d n (cell c k) () = amt k * (Finset.range n).sum (owes1 d c k)
  | 0 => rfl
  | n + 1 => by
    show (ow d n + tallyAt (cell (oweD d n) (oweK d n)) () (amt (oweK d n))) (cell c k) () = _
    rw [Pi.add_apply, Finsupp.add_apply, ow_apply d c hk n, tallyAt_apply, Finset.sum_range_succ, Nat.mul_add]
    congr 1
    unfold owes1
    by_cases h : oweD d n = c ∧ oweK d n = k
    · rw [if_pos h, if_pos ⟨by rw [h.1, h.2], rfl⟩, h.2, Nat.mul_one]
    · rw [if_neg h, if_neg (fun e => h ((cell_eq_iff hk (oweK_ne d n)).mp e.1 |>.imp Eq.symm Eq.symm)), Nat.mul_zero]

theorem count_bar : ∀ c : Dev nD, (Finset.univ.sum fun d : Dev nD => (Finset.range 21).sum (owes1 d c .bar)) = 7 := by decide +kernel
theorem count_rcv : ∀ c j : Dev nD, j ≠ c → (Finset.univ.sum fun d : Dev nD => (Finset.range 21).sum (owes1 d c (.rcv j))) = 1 := by decide +kernel
theorem count_arc : ∀ c j : Dev nD, j ≠ c → (Finset.univ.sum fun d : Dev nD => (Finset.range 21).sum (owes1 d c (.arc j))) = 1 := by decide +kernel

theorem launch_cell (c : Dev nD) {k : Knd} (hk : k ≠ .none) {n : ℕ} (hn : (Finset.univ.sum fun d : Dev nD => (Finset.range 21).sum (owes1 d c k)) = n) :
    tallyOn (cell c k) (launchCredit (Pipeline.owing O₀) 0 (cell c k)) = (tallyAt (cell c k) () (amt k * n) : CellTallies nD τ sig Unit) := by
  unfold tallyAt; refine congrArg _ (Finsupp.ext fun u => ?_); cases u
  rw [Pipeline.launchCredit_owing, Finsupp.single_eq_same, Finset.sum_congr rfl fun d _ => ow_apply d c hk 21, ← Finset.mul_sum, hn]

omit [FloatOps F] in
/-- The credits a device needs, out of the launch's. -/
theorem creds_intro (c : Dev nD) : (Pipeline.launchCred O₀ c : sProp 𝕄) ⊢ creds c := by
  have h0 : (Pipeline.launchCred O₀ c : sProp 𝕄) ⊢ bigSep Finset.univ (fun k : Fin 36 =>
      cred (tallyOn (kcell (c, k)) (launchCredit (Pipeline.owing O₀) 0 (kcell (c, k))))) := by
    unfold Pipeline.launchCred
    refine (BI.bigSep_subset (Finset.subset_univ (Finset.univ.map ⟨csem, csem_injective⟩))).trans ?_
    rw [bigSep_map]; rfl
  have hd : ∀ Φ : Dev nD → sProp 𝕄, bigSep Finset.univ Φ ⊢ bigSep (Finset.univ.erase c) Φ := fun Φ => BI.bigSep_subset (Finset.erase_subset _ _)
  refine h0.trans ?_
  rw [uses]
  unfold creds
  rw [launch_cell c (k := .bar) (fun h => by cases h) (count_bar c)]
  iintro ⟨B, -, -, R, -, A⟩
  isplitl [B]; · iexact B
  isplitl [R]
  · iapply ((hd _).trans (Entails.of_eq (bigSep_congr fun j hj => by
      show cred (tallyOn (cell c (.rcv j)) (launchCredit (Pipeline.owing O₀) 0 (cell c (.rcv j)))) = _
      rw [launch_cell c (k := .rcv j) (fun h => by cases h) (count_rcv c j (Finset.ne_of_mem_erase hj)), Nat.mul_one]; rfl)))
    iexact R
  iapply ((hd _).trans (Entails.of_eq (bigSep_congr fun j hj => by
      show cred (tallyOn (cell c (.arc j)) (launchCredit (Pipeline.owing O₀) 0 (cell c (.arc j)))) = _
      rw [launch_cell c (k := .arc j) (fun h => by cases h) (count_arc c j (Finset.ne_of_mem_erase hj)), Nat.mul_one]; rfl)))
  iexact A

/-! ## The region -/

/-- What device `c`'s body starts from, beside its buffers. -/
def start (c : Dev nD) : sProp 𝕄 := iprop((∃ K, ctx m ρ K) ∗ ats c ∗ toks c ∗ creds c ∗ bufP c main_arg1 (wv m c))

/-- The scratch buffers, free. -/
def scratch (c : Dev nD) : sProp 𝕄 :=
  iprop((∃ f, bufP c cc0_scratch0 f) ∗ (∃ f, bufP c cc0_scratch1 f) ∗ (∃ f, bufP c cc0_scratch2 f) ∗ ∃ f, bufP c cc0_scratch3 f)

def Φ₀ (c : Dev nD) : sProp 𝕄 := iprop(start m ρ c ∗ scratch c)
def Φ₁ (m : (ℓ : Loc nD τ sig) → Buf (Elt F) ℓ) (c : Dev nD) : sProp 𝕄 := iprop(bufP c main_arg1 (wv m c) ∗ sems c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

abbrev t₀ : Fin cfg0.N := t0_0
theorem fetch_0 : (cfg0.win (0 : Fin 2)).fetch t₀ = true := rfl

abbrev stg (c : Dev nD) (b : Ref sig .tc) (X : b.ty.Contents (Elt F)) : sProp 𝕄 :=
  iprop(∃ f : Buf (Elt F) (((c : Dev nD) : Thread nD τ).loc b), ⌜f = X⌝ ∗ bufP c b f)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m ρ c) ∗ stg c cc0_stg1_0 (outAt m ρ c))

theorem body_sound (c : Dev nD) : bodyPre m ρ c ⊢ WP c (Pbody (F := F)) (fun _ => bodyPost m ρ c) := by
  unfold bodyPre Φ₀ start scratch
  iintro ⟨⟨⟨⟨%K, HC⟩, Ha, Ht, Hc, Hw⟩, H0, H1, H2, H3⟩, Ho, ⟨%d0, %g0, %hg0, Hx⟩, ⟨%d1, %g1, %hg1, Hout⟩⟩
  have hx : g0 = xstg m ρ c := by rw [hg0]; unfold Dat.before; rw [if_pos fetch_0]; rfl
  subst hx
  unfold Dat.owesAt Pipeline.owesWithin
  icases Ho with ⟨%W, %hW, HO⟩
  rw [show (dats m ρ 0 c).owed t₀.castSucc = O₀ c from rfl]
  iapply (body_run m ρ K c)
  isplitl [HC]; · iexact HC
  isplitl [HO]; · unfold owing; iexists W; iexact HO
  isplitl [Ht]; · iexact Ht
  isplitl [Ha]; · iexact Ha
  isplitl [Hc]; · iexact Hc
  isplitl [Hw]; · iexact Hw
  isplitl [H0]; · iexact H0
  isplitl [H1]; · iexact H1
  isplitl [H2]; · iexact H2
  isplitl [H3]; · iexact H3
  isplitl [Hx]; · iexact Hx
  isplitl [Hout]; · iexists g1; iexact Hout
  iintro Hl
  unfold left bodyPost Φ₁ scratch Dat.owesAt Pipeline.owesWithin owing
  rw [show (dats m ρ 0 c).owed t₀.succ = 0 from rfl]
  icases Hl with ⟨⟨%W', HO⟩, Hw, H0, H1, H2, H3, Hx, Hout, HS⟩
  isplitl [Hw HS H0 H1 H2 H3]
  · isplitl [Hw]; · iexact Hw
    isplitl [HS]; · iexact HS
    isplitl [H0]; · iexact H0
    isplitl [H1]; · iexact H1
    isplitl [H2]; · iexact H2
    iexact H3
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_sound m ρ c

theorem share_eq (c : Dev nD) (w : Fin cfg0.W) : (dats m ρ 0 c).share w = fullShare := by unfold Dat.share; split <;> rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have h : (Pipeline.unscopedRestP (Ix := Unit) (Name := ℕ) (U := UU) (Lvl := ℕ) Pipeline.Prefetch.none cfg0.spec c (fun b => m ((c : Thread nD τ).loc b)) : sProp 𝕄) = bufP c main_arg1 (wv m c) :=
    (Pipeline.unscopedRestP_none ..).trans (unscopedRest0_eq c _)
  rw [h]
  iintro ⟨Hw, Hlev, Hcr, -, HG⟩
  ihave Hc := (creds_intro (F := F) c) $$ Hcr
  imodintro
  unfold start G' ctx
  icases HG with ⟨⟨%K, HK⟩, Ha, Ht⟩
  isplitl
  · isplitl [HK Hlev]
    · iexists K
      isplitl [HK]; · iexact HK
      iexact Hlev
    isplitl [Ha]; · iexact Ha
    isplitl [Ht]; · iexact Ht
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What the region hands back beside the scratch: the weights and the runtime's semaphore. -/
def fin (m : (ℓ : Loc nD τ sig) → Buf (Elt F) ℓ) (c : Dev nD) : sProp 𝕄 := iprop(bufP c main_arg1 (wv m c) ∗ unscopedSems0 c)

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scopedRest0_eq]
  unfold Φ₁ fin scratch
  rw [sems_eq]
  iintro ⟨Hw, ⟨Hu, Ho⟩, Hr⟩
  isplitl [Hw Hu]
  · isplitl [Hw] <;> iassumption
  isplitl [Ho]; · iexact Ho
  iexact Hr

theorem owe_pos (c : Dev nD) (i : ℕ) : 0 < lvK (oweK c i) := by
  unfold oweK; split <;> [skip; split] <;> exact Nat.succ_pos _

theorem waits (c : Dev nD) : (levAts L lv : sProp 𝕄) ⊢ Pipeline.cellsWaits cfgs (dats m ρ) () 0 c :=
  Pipeline.cellsWaits_intro cfgs (dats m ρ) () 0 c fun w s t => by
    have hk : lvK (kd (SemLoc.dma (((cfgs 0).win w).sem s))) = 0 := by fin_cases w <;> fin_cases s <;> rfl
    rcases t with ⟨_ | _, ht⟩
    · exact mayWait c _ 21 fun i hi => by rw [hk]; exact owe_pos c i
    · exact mayWait c _ 0 fun i hi => absurd hi (Nat.not_lt_zero i)

/-! ## The run -/

/-- What an array holds at the end. -/
def finalA (c : Dev nD) (w : Fin cfg0.W) : Buf (Elt F) ((cfg0.win w).arr.view.loc (c : Thread nD τ)) := (dats m ρ 0 c).arrAt w cfg0.N

theorem fin_read (c : Dev nD) (s' : Phys nD τ sig (Elt F)) :
    iprop(fin m c ∗ emp ∗ SI s') ⊢ |={Set.univ}=> iprop(⌜(∀ sm : SemLoc sig, sm.isScoped .tc = false → s'.mem.sem ((c.tc : Thread nD τ), sm) = 0)
        ∧ s'.mem.mem ((c : Thread nD τ).loc main_arg1) = wv m c⌝ ∗ (SI s' : sProp 𝕄)) := by
  unfold fin bufP
  iintro ⟨⟨Hw, Hu⟩, -, HSI⟩
  ihave %h := (SI_pointsTo_agree (st := s') (ℓ := ((c : Thread nD τ).loc main_arg1)) (q := fullShare) (f := wv m c)) $$ [Hw HSI]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨h2, funext fun i => h i (Finset.mem_univ i)⟩
  iexact HSI

set_option maxRecDepth 8000 in
/-- From any memory with zero counters every fair execution of the eight devices terminates, and every final state has
    each device's two windowed arrays at the computed contents, its weights unchanged and every counter at zero. -/
theorem run_main : θ_run defs (onTc (τ := τ) (main (F := F))) (s₀ m ρ)
    (fun r => (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fin m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
        ∧ s.mem ((c : Thread nD τ).loc main_arg1) = wv m c)
    (hY := fin_read m)
    (hQ := fun _ h hs => ⟨fun c => ⟨(h c).1, (h c).2.2.2⟩, sem_eq_zero hs fun c => (h c).2.2.1⟩)

/-- The activations after the run are what they were. -/
theorem finalA_x (c : Dev nD) : finalA m ρ c (0 : Fin 2) = m (win0_0.arr.view.loc (c : Thread nD τ)) :=
  (dats (F := F) m ρ 0 c).arrAt_in (0 : Fin 2) rfl _

end Cert.Run

end
-- ==== Proof.Sums.lean ====
/- The mathematics both programs compute over the extended reals, and the regrouping of its sum and of its maximum by the
   eight row blocks of the contracted axis and the eight row blocks of the result. -/
module

public import Idealize.ShloMosaic.PureOps.Ideal
public import Idealize.ShloMosaic.PureOps.Ideal.Laws
public import Idealize.ShloMosaic.PureOps.Reduce
public import Idealize.ShloMosaic.Lib.ValueIdx
public import Idealize.ShloMosaic.Lib.MatmulPlain
public import Idealize.ShloMosaic.Lib.Pipeline.Value

@[expose] public section

noncomputable section

namespace Cert.Sums

open Idealize.ShloMosaic
open Idealize.ShloMosaic.ValueIdx (ix2 ix3)

/-- Place `k` of block `j` when 4096 spots are cut into eight blocks of 512. -/
def spot (j : Fin 8) (k : Fin 512) : Fin 4096 := ⟨512 * j.val + k.val, by omega⟩

/-- Cutting 4096 spots into eight blocks of 512 loses and repeats none. -/
def spots : Fin 8 × Fin 512 ≃ Fin 4096 where
  toFun p := spot p.1 p.2
  invFun r := (⟨r.val / 512, by omega⟩, ⟨r.val % 512, by omega⟩)
  left_inv p := by
    rcases p with ⟨j, k⟩
    refine Prod.ext (Fin.ext ?_) (Fin.ext ?_)
    · show (512 * j.val + k.val) / 512 = j.val
      omega
    · show (512 * j.val + k.val) % 512 = k.val
      omega
  right_inv r := Fin.ext (by
    show 512 * (r.val / 512) + r.val % 512 = r.val
    omega)

/-- A sum over 4096 spots is the sum of its eight blocks' sums. -/
theorem sum_spots (f : Fin 4096 → EReal) : ∑ j : Fin 8, ∑ k : Fin 512, f (spot j k) = ∑ r, f r := by
  rw [← Fintype.sum_prod_type' (fun j k => f (spot j k))]
  exact Equiv.sum_comp spots f

/-- The least upper bound over 4096 spots is that of its eight blocks' least upper bounds. -/
theorem sup_spots (f : Fin 4096 → EReal) : ⨆ j : Fin 8, ⨆ k : Fin 512, f (spot j k) = ⨆ r, f r := by
  rw [← iSup_prod (f := fun p : Fin 8 × Fin 512 => f (spot p.1 p.2))]
  exact spots.iSup_comp (g := f)

/-- Entry `(r, n)` of the product of the whole left array and the whole right one. -/
def prod (X : Vec Ideal ⟨2, ![4096, 4096]⟩ .f32) (W : Vec Ideal ⟨2, ![4096, 2048]⟩ .f32) (r : Fin 4096) (n : Fin 2048) : EReal :=
  ∑ k : Fin 4096, (X (ix2 r k) : EReal) * (W (ix2 k n) : EReal)

/-- The magnitude of an extended real. -/
def mag (y : EReal) : EReal := max y (-y)

/-- The greatest magnitude among the product's entries. -/
def top (X : Vec Ideal ⟨2, ![4096, 4096]⟩ .f32) (W : Vec Ideal ⟨2, ![4096, 2048]⟩ .f32) : EReal :=
  ⨆ r : Fin 4096, ⨆ n : Fin 2048, mag (prod X W r n)

/-- An entry divided by the scale, clipped to ±448 and multiplied by the scale, the scale being a greatest magnitude over 448. -/
def quant (g y : EReal) : EReal :=
  min (Ideal.ofBits .f32 0x43E00000#32)
      (max (Ideal.ofBits .f32 0xC3E00000#32) (Ideal.div y (Ideal.div g (Ideal.ofBits .f32 0x43E00000#32))))
    * Ideal.div g (Ideal.ofBits .f32 0x43E00000#32)

/-- The whole result. -/
def result (X : Vec Ideal ⟨2, ![4096, 4096]⟩ .f32) (W : Vec Ideal ⟨2, ![4096, 2048]⟩ .f32) : Vec Ideal ⟨2, ![4096, 2048]⟩ .f32 :=
  fun i => quant (top X W) (prod X W ⟨(i 0).val, (i 0).isLt⟩ ⟨(i 1).val, (i 1).isLt⟩)

/-- The word the maxima start from is the least extended real. -/
theorem ofBits_least : Ideal.ofBits .f32 0xFF800000#32 = ⊥ := by simp [Ideal.ofBits, Ideal.ieee]

/-- A fold of `max` from the least extended real is the least upper bound. -/
theorem fold_max {ι : Type} [Fintype ι] (f : ι → EReal) (b : EReal) (hb : b = ⊥) :
    (Finset.univ : Finset ι).fold (max : EReal → EReal → EReal) b f = ⨆ i, f i := by
  subst hb
  exact Finset.sup_univ_eq_iSup f

/-- A maximum over every entry of a vector, left as a vector of one entry. -/
theorem reduction_all {s : Shape} {axes : List (Fin s.rank)} (src : FVec Ideal s .f32) (h : s.Reduces axes ⟨1, ![1]⟩)
    (hφ : FKind.Formats .f32) (hacc : 0xFF800000#32 = FKind.maximumf.neutral .f32 hφ) (j : (⟨1, ![1]⟩ : Shape).Idx) :
    (multiReduction .maximumf axes ⟨1, ![1]⟩ src 0xFF800000#32 h hφ hacc j : EReal) = ⨆ i, (src i : EReal) := by
  refine (multiReduction_maximumf_eq_fold src _ h hφ hacc j).trans ?_
  rw [Finset.filter_true_of_mem fun i _ => funext fun a => Fin.ext (by
    have e : a = 0 := Fin.ext (by have := a.isLt; change a.val < 1 at this; show a.val = 0; omega)
    subst e
    have h1 : (h.drop i 0).val < 1 := (h.drop i 0).isLt
    have h2 : (j 0).val < 1 := (j 0).isLt
    omega)]
  exact fold_max (fun i => (src i : EReal)) _ ofBits_least

/-- That maximum taken out of its vector as a number. -/
theorem extract_all {s : Shape} {axes : List (Fin s.rank)} (src : FVec Ideal s .f32) (h : s.Reduces axes ⟨1, ![1]⟩)
    (hφ : FKind.Formats .f32) (hacc : 0xFF800000#32 = FKind.maximumf.neutral .f32 hφ)
    (h1 : (⟨1, ![1]⟩ : Shape).ShapeCasts ⟨3, ![1, 1, 1]⟩) (h2 : ∀ a : Fin 3, (![0, 0, 0] : Fin 3 → ℕ) a < (⟨3, ![1, 1, 1]⟩ : Shape).size a) :
    (extractAt (s := ⟨3, ![1, 1, 1]⟩) ![0, 0, 0]
      (shapeCast ⟨3, ![1, 1, 1]⟩ (multiReduction .maximumf axes ⟨1, ![1]⟩ src 0xFF800000#32 h hφ hacc) h1) h2 : EReal) = ⨆ i, (src i : EReal) := by
  unfold extractAt shapeCast
  exact reduction_all src h hφ hacc _

/-- The same entries in another shape have the same least upper bound. -/
theorem sup_cast {s t : Shape} (v : s.Idx → EReal) (h : s.ShapeCasts t) : ⨆ i, shapeCast t v h i = ⨆ i, v i :=
  (Shape.reshapeEquiv h).iSup_comp (g := v)

/-- The same for the magnitudes of a vector's entries. -/
theorem sup_mag {s t : Shape} (v : FVec Ideal s .f32) (h : s.ShapeCasts t) :
    ⨆ i, (shapeCast t (absf v) h i : EReal) = ⨆ i, mag (v i) :=
  sup_cast (fun i => mag (v i)) h

/-- A host maximum of the magnitudes of every entry, down to a scalar. -/
theorem host_all {s t u : Shape} {axes : List (Fin s.rank)} (v : FVec Ideal s .f32) (h : s.ReducesTo axes t) (hu : 0 < u.numel)
    (ht : t.rank = 0) (j : t.Idx) :
    (Host.reduce (FloatOps.maximumf (F := Ideal) (φ := .f32)) (Host.absf v) (constant (F := Ideal) u .f32 0xFF800000#32) h hu j : EReal)
      = ⨆ i, mag (v i) := by
  refine (Host.reduce_eq_fold _ _ _ h hu j).trans ?_
  rw [Finset.filter_true_of_mem fun i _ => funext fun a => absurd a.isLt (by omega)]
  exact fold_max (fun i => mag (v i)) _ ofBits_least

/-- A least upper bound over a two-axis array is one over its rows of one over the row. -/
theorem sup_rows {p q : ℕ} (f : (⟨2, ![p, q]⟩ : Shape).Idx → EReal) : ⨆ i, f i = ⨆ a : Fin p, ⨆ b : Fin q, f (ix2 a b) := by
  refine le_antisymm (iSup_le fun i => ?_) (iSup_le fun a => iSup_le fun b => le_iSup f (ix2 a b))
  rw [ValueIdx.eq_ix2 i]
  exact le_iSup_of_le (i 0) (le_iSup (fun b : Fin q => f (ix2 (i 0) b)) (i 1))

end Cert.Sums

end
-- ==== Proof.Rows.lean ====
/- What the kernel leaves, over the extended reals: each device its eighth of the rows of the whole result. -/
module

public import proofs.«01_k».proof.Proof.Deal
public import proofs.«01_k».proof.Proof.Sums
public import Idealize.ShloMosaic.Lib.Layout

@[expose] public section

set_option backward.proofsInPublic true

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

open Cert.Sums

variable (m : (ℓ : Loc nD τ sig) → Buf (Elt Ideal) ℓ) (ρ : Dev nD → PrngReg)

/-- The product of a column block and a row block, both at the width the kernel multiplies. -/
def blockDot (x : Vec Ideal S512x512 .bf16) (w : Vec Ideal S1x512x2048 .f32) (a : Fin 512) (n : Fin 2048) : EReal :=
  ∑ k : Fin 512, (x (ix2 a k) : EReal) * (w (ix3 (0 : Fin 1) k n) : EReal)

/-- An entry of one step's product. -/
theorem first_apply (x : Vec Ideal S512x512 .bf16) (w : Vec Ideal S1x512x2048 .f32) (a : Fin 512) (n : Fin 2048) :
    (k0_pay4 x w (ix2 a n) : EReal) = blockDot x w a n := by
  refine (Ideal.matmul_plain_apply none (extf .f32 x bitsLt_bf16_f32) (shapeCast S512x2048 w shapeCasts_S1x512x2048_S512x2048)
    (constant S512x2048 .f32 0x00000000#32) a n).trans ?_
  refine (congrArg₂ (· + ·) Ideal.ofBits_zero_f32 rfl).trans ((zero_add _).trans (Finset.sum_congr rfl fun k _ => ?_))
  refine congrArg (fun y : EReal => (x (ix2 a k) : EReal) * y) ?_
  exact shapeCast_apply w shapeCasts_S1x512x2048_S512x2048 (ix2 k n) (ix3 (0 : Fin 1) k n) (by
    rw [Shape.rowMajor_val_three, Shape.rowMajor_val_two]
    show (0 * 512 + k.val) * 2048 + n.val = k.val * 2048 + n.val
    omega)

/-- A later step adds its product to the running sum. -/
theorem later_apply (x : Vec Ideal S512x512 .bf16) (w : Vec Ideal S1x512x2048 .f32) (s : Vec Ideal S512x2048 .f32) (a : Fin 512) (n : Fin 2048) :
    (k0_pay10 x w s (ix2 a n) : EReal) = (s (ix2 a n) : EReal) + blockDot x w a n := by
  rw [← first_apply]
  exact congrArg (fun v : Vec Ideal S512x2048 .f32 => (v (ix2 a n) : EReal) + (k0_pay4 x w (ix2 a n) : EReal))
    (shapeCast_self s shapeCasts_S512x2048_S512x2048)

/-- The running sum at its end is the sum of the eight steps' products. -/
theorem acc7_apply (c : Dev nD) (a : Fin 512) (n : Fin 2048) :
    (acc7 m ρ c (ix2 a n) : EReal) = ∑ j : Fin 8, blockDot (xr m ρ c j) (wr m c j) a n := by
  rw [Fin.sum_univ_eight]
  have e0 : (acc0 m ρ c (ix2 a n) : EReal) = _ := first_apply _ _ a n
  have e1 : (acc1 m ρ c (ix2 a n) : EReal) = _ := later_apply (xr m ρ c 1) (wr m c 1) (acc0 m ρ c) a n
  have e2 : (acc2 m ρ c (ix2 a n) : EReal) = _ := later_apply (xr m ρ c 2) (wr m c 2) (acc1 m ρ c) a n
  have e3 : (acc3 m ρ c (ix2 a n) : EReal) = _ := later_apply (xr m ρ c 3) (wr m c 3) (acc2 m ρ c) a n
  have e4 : (acc4 m ρ c (ix2 a n) : EReal) = _ := later_apply (xr m ρ c 4) (wr m c 4) (acc3 m ρ c) a n
  have e5 : (acc5 m ρ c (ix2 a n) : EReal) = _ := later_apply (xr m ρ c 5) (wr m c 5) (acc4 m ρ c) a n
  have e6 : (acc6 m ρ c (ix2 a n) : EReal) = _ := later_apply (xr m ρ c 6) (wr m c 6) (acc5 m ρ c) a n
  have e7 : (acc7 m ρ c (ix2 a n) : EReal) = _ := later_apply (xr m ρ c 7) (wr m c 7) (acc6 m ρ c) a n
  rw [e7, e6, e5, e4, e3, e2, e1, e0]

/-- A row of maxima holds one number throughout: the maximum of the magnitudes, taken out of its vector. -/
theorem row_entry (v : Vec Ideal S512x2048 .f32) (l : S1x128.Idx) :
    k0_pay17 v l = extractAt (s := S1x1x1) ![0, 0, 0] (shapeCast S1x1x1
      (multiReduction .maximumf [1, 2] S1 (shapeCast S1x512x2048 (absf (k0_pay16 v)) shapeCasts_S512x2048_S1x512x2048) 0xFF800000#32
        reduces_S1x512x2048_S1 (.inl rfl) rfl) shapeCasts_S1_S1x1x1) inpos_S1x1x1_p0_0_0 := by
  unfold k0_pay17
  exact ValueIdx.broadcast_apply _ _

/-- Every entry of a row of maxima is the greatest magnitude of what it was taken from. -/
theorem row_max (v : Vec Ideal S512x2048 .f32) (l : S1x128.Idx) :
    (k0_pay17 v l : EReal) = ⨆ a : Fin 512, ⨆ n : Fin 2048, mag (v (ix2 a n)) := by
  rw [row_entry, show k0_pay16 v = v from shapeCast_self _ shapeCasts_S512x2048_S512x2048]
  refine (extract_all (shapeCast S1x512x2048 (absf (F := Ideal) (φ := .f32) v) shapeCasts_S512x2048_S1x512x2048) _ _ _ _ _).trans ?_
  exact (sup_mag (s := S512x2048) v shapeCasts_S512x2048_S1x512x2048).trans (sup_rows fun i => mag (v i))

section Whole

variable (X : Vec Ideal ⟨2, ![4096, 4096]⟩ .f32) (W : Vec Ideal ⟨2, ![4096, 2048]⟩ .f32)
  (hX : ∀ c : Dev nD, m ((c : Thread nD τ).loc main_arg0) = Layout.block ⟨2, ![4096, 512]⟩ ⟨2, ![4096, 4096]⟩ 1 8 c X)
  (hW : ∀ c : Dev nD, m ((c : Thread nD τ).loc main_arg1) = W)

include hX in
/-- The column block a device reads at step `j` is its rows of the whole array's `j`th column block. -/
theorem xr_apply (c : Dev nD) (j : Fin 8) (a k : Fin 512) :
    (xr m ρ c j (ix2 a k) : EReal) = X (ix2 (spot c a) (spot j k)) := by
  have e1 : xb m ρ j = xstg m ρ j := funext fun i =>
    (congrFun (shapeCast_self _ shapeCasts_S4096x512_S4096x512) i).trans (congrFun (shapeCast_self (xstg m ρ j) shapeCasts_S4096x512_S4096x512) i)
  have e2 : ∀ i : S4096x512.Idx, xstg m ρ j i = m ((j : Thread nD τ).loc main_arg0) i := fun i =>
    congrArg (m ((j : Thread nD τ).loc main_arg0)) (funext fun b => Fin.ext (win0_0.rect_emb_val_of_index_zero (0 : Fin 1) b (by
      revert b; decide) i))
  show xb m ρ j _ = _
  rw [e1, e2, hX]
  refine congrArg X (funext fun b => Fin.ext ?_)
  match b with
  | ⟨0, _⟩ => rfl
  | ⟨1, _⟩ =>
    show j.val * 512 + k.val = 512 * j.val + k.val
    omega

include hW in
/-- The row block of the weights at step `j`. -/
theorem wr_apply (c : Dev nD) (j : Fin 8) (k : Fin 512) (n : Fin 2048) :
    (wr m c j (ix3 (0 : Fin 1) k n) : EReal) = W (ix2 (spot j k) n) :=
  congrFun (hW c) _

include hX hW in
/-- The running sum at its end is the device's rows of the whole product. -/
theorem acc7_prod (c : Dev nD) (a : Fin 512) (n : Fin 2048) : (acc7 m ρ c (ix2 a n) : EReal) = prod X W (spot c a) n := by
  rw [acc7_apply]
  refine (Finset.sum_congr rfl fun j _ => Finset.sum_congr rfl fun k _ => ?_).trans
    (sum_spots fun r => (X (ix2 (spot c a) r) : EReal) * (W (ix2 r n) : EReal))
  rw [xr_apply m ρ X hX, wr_apply m W hW]

include hX hW in
/-- Every entry of a device's row of maxima is the greatest magnitude in its rows of the product. -/
theorem amrow_top (c : Dev nD) (l : S1x128.Idx) :
    (amrow m ρ c l : EReal) = ⨆ a : Fin 512, ⨆ n : Fin 2048, mag (prod X W (spot c a) n) := by
  have e : k0_pay18 (k0_pay17 (acc7 m ρ c)) = k0_pay17 (acc7 m ρ c) := shapeCast_self _ shapeCasts_S1x128_S1x128
  unfold amrow
  rw [e]
  rw [row_max]
  refine iSup_congr fun a => iSup_congr fun n => ?_
  rw [acc7_prod m ρ X W hX hW c a n]

include hX hW in
/-- The greatest of the gathered maxima is the greatest magnitude in the whole product. -/
theorem am_top : (⨆ i : S8x128.Idx, (show EReal from am m ρ i)) = top X W := by
  refine (sup_rows (p := 8) (q := 128) fun i => am m ρ i).trans (Eq.trans ?_ (sup_spots fun r => ⨆ n : Fin 2048, mag (prod X W r n)))
  refine iSup_congr fun d => ?_
  exact (iSup_congr fun l : Fin 128 => amrow_top m ρ X W hX hW d (ix2 (0 : Fin 1) l)).trans iSup_const

include hX hW in
/-- The kernel's result on device `c` is its block of rows of the whole result. -/
theorem outAt_result (c : Dev nD) :
    outAt m ρ c = Layout.block ⟨2, ![512, 2048]⟩ ⟨2, ![4096, 2048]⟩ 0 8 c (result X W) := by
  funext i
  have e' : k0_pay16 (acc7 m ρ c) = acc7 m ρ c := shapeCast_self _ shapeCasts_S512x2048_S512x2048
  have g : (multiReduction .maximumf [1, 2] S1 (shapeCast S1x8x128 (am m ρ) shapeCasts_S8x128_S1x8x128) 0xFF800000#32
      reduces_S1x8x128_S1 (.inl rfl) rfl : FVec Ideal S1 .f32) = fun _ => top X W := funext fun j =>
    (reduction_all _ reduces_S1x8x128_S1 (.inl rfl) rfl j).trans
      ((sup_cast _ shapeCasts_S8x128_S1x8x128).trans (am_top m ρ X W hX hW))
  have y : (acc7 m ρ c i : EReal) = prod X W (spot c ⟨(i 0).val, (i 0).isLt⟩) ⟨(i 1).val, (i 1).isLt⟩ := by
    refine Eq.trans ?_ (acc7_prod m ρ X W hX hW c _ _)
    exact congrArg (acc7 m ρ c) (ValueIdx.eq_ix2 i)
  unfold outAt
  rw [e']
  unfold k0_pay19
  rw [g]
  show quant (top X W) (acc7 m ρ c i) = _
  rw [y]
  refine congrArg (fun r => quant (top X W) (prod X W r _)) (Fin.ext ?_)
  show 512 * c.val + (i 0).val = c.val * 512 + (i 0).val
  omega

end Whole

/-- The output array after the run is the kernel's result. -/
theorem finalA_out (c : Dev nD) : finalA m ρ c (1 : Fin 2) = outAt m ρ c := by
  have h := (dats m ρ 0 c).read_blk_arrAt_eq_flushed (1 : Fin 2) (fun t t' _ _ hne => absurd (Subsingleton.elim (α := Fin 1) t t') hne)
    cfg0.N t₀ t₀.isLt rfl
  funext i
  refine Eq.trans ?_ (congrFun h i)
  refine congrArg (finalA m ρ c (1 : Fin 2)) (funext fun b => Fin.ext ?_)
  exact (win0_1.rect_emb_val_of_index_zero (0 : Fin 1) b ((by decide : ∀ b : Fin 2, win0_1.index (0 : Fin 1) b = 0) b) i).symm

end Cert.Run

end
-- ==== Proof.Whole.lean ====
/- What the reference leaves, over the extended reals: the whole result. -/
module

public import proofs.«01_k».proof.Proof.Gen.ReferenceIdeal.Value
public import proofs.«01_k».proof.Proof.Sums
public import Idealize.ShloMosaic.Lib.StackMember
public import Idealize.ShloMosaic.Lib.Pipeline.ValueKit.Basic
public import Idealize.ShloMosaic.Lib.StableHlo.Run

@[expose] public section

noncomputable section

namespace Cert.Ref

open Cert.ReferenceIdeal Cert.ReferenceIdeal.Gen Cert.ReferenceIdeal.Value
open Idealize.ShloMosaic
open Idealize.ShloMosaic.TcCoe
open Idealize.SL.Sem
open Idealize.ShloMosaic.StableHlo
open Idealize.ShloMosaic.ValueIdx (ix2)
open Cert.Sums

section Lines

variable {F : FTy → Type} [FloatOps F]

/-- The product, as the host line computes it. -/
def hostProd (X : FVec F S4096x4096 .f32) (W : FVec F S4096x2048 .f32) : FVec F S4096x2048 .f32 :=
  Host.dotGeneral dot_S4096x4096_S4096x2048_S4096x2048_1_0_0_1_n_n none X W

/-- The greatest magnitude, as the host lines compute it. -/
def hostTop (y : FVec F S4096x2048 .f32) : FVec F S_ .f32 :=
  Host.reduce FloatOps.maximumf (Host.absf y) (constant S_ .f32 0xFF800000#32) reducesTo_S4096x2048_S_d0_1 h_S_

/-- The scale, as the host lines compute it. -/
def hostScale (y : FVec F S4096x2048 .f32) : FVec F S1x1 .f32 :=
  shapeCast S1x1 (Host.divf (hostTop y) (constant S_ .f32 0x43E00000#32)) shapeCasts_S_S1x1

/-- What the host lines leave in the product's buffer -/
theorem line_prod (U : Valuation τ sig (Elt F)) :
    after hostOps0 U (main_v0 : DevRef τ sig) = hostProd (U (main_arg0 : DevRef τ sig)) (U (main_arg1 : DevRef τ sig)) := by
  after_results
  rfl

/-- and in the scale's. -/
theorem line_scale (U : Valuation τ sig (Elt F)) :
    after hostOps0 U (main_v4 : DevRef τ sig) = hostScale (hostProd (U (main_arg0 : DevRef τ sig)) (U (main_arg1 : DevRef τ sig))) := by
  after_results
  rfl

end Lines

variable (m : (ℓ : Loc nD τ sig) → Buf (Elt Ideal) ℓ)

/-- The whole left array and the whole right one, as launched. -/
def lhs : Vec Ideal ⟨2, ![4096, 4096]⟩ .f32 := m (((0 : Dev nD) : Thread nD τ).loc main_arg0)
def rhs : Vec Ideal ⟨2, ![4096, 2048]⟩ .f32 := m (((0 : Dev nD) : Thread nD τ).loc main_arg1)

/-- An entry of the host product. -/
theorem hostProd_apply (X : Vec Ideal S4096x4096 .f32) (W : Vec Ideal S4096x2048 .f32) (r : Fin 4096) (n : Fin 2048) :
    (hostProd (F := Ideal) X W (ix2 r n) : EReal) = prod X W r n :=
  StackMember.dotGeneral_plain_apply none X W r n

/-- The host maximum is the greatest magnitude. -/
theorem hostTop_apply (y : Vec Ideal S4096x2048 .f32) (j : S_.Idx) : (hostTop (F := Ideal) y j : EReal) = ⨆ i, mag (y i) := by
  unfold hostTop
  exact host_all y reducesTo_S4096x2048_S_d0_1 h_S_ rfl j

/-- The host scale is the greatest magnitude over 448. -/
theorem hostScale_apply (y : Vec Ideal S4096x2048 .f32) (j : S1x1.Idx) :
    (hostScale (F := Ideal) y j : EReal) = Ideal.div (⨆ i, mag (y i)) (Ideal.ofBits .f32 0x43E00000#32) :=
  congrArg (fun t => Ideal.div t (Ideal.ofBits .f32 0x43E00000#32)) (hostTop_apply y _)

/-- The block of the product the region reads is the whole product, -/
theorem in_prod : iblk m (0 : Dev nD) 0 t0_0 = hostProd (F := Ideal) (lhs m) (rhs m) := by
  refine Eq.trans ?_ (line_prod (F := Ideal) fun b => m ((0 : Dev nD), b))
  funext i
  refine congrArg (V m (0 : Dev nD) main_v0) (funext fun b => Fin.ext ?_)
  exact win0_0.rect_emb_val_of_index_zero t0_0 b ((by decide : ∀ b : Fin 2, win0_0.index t0_0 b = 0) b) i

/-- and the block of the scale is the scale. -/
theorem in_scale : iblk m (0 : Dev nD) 1 t0_0 = hostScale (F := Ideal) (hostProd (F := Ideal) (lhs m) (rhs m)) := by
  refine Eq.trans ?_ (line_scale (F := Ideal) fun b => m ((0 : Dev nD), b))
  funext i
  refine congrArg (V m (0 : Dev nD) main_v4) (funext fun b => Fin.ext ?_)
  exact win0_1.rect_emb_val_of_index_zero t0_0 b ((by decide : ∀ b : Fin 2, win0_1.index t0_0 b = 0) b) i

/-- The greatest magnitude among the host product's entries. -/
theorem top_eq (X : Vec Ideal S4096x4096 .f32) (W : Vec Ideal S4096x2048 .f32) :
    ⨆ i, mag (hostProd (F := Ideal) X W i) = top X W :=
  (sup_rows fun i => mag (hostProd (F := Ideal) X W i)).trans
    (iSup_congr fun r => iSup_congr fun n => congrArg mag (hostProd_apply X W r n))

/-- The lines of the region, entry by entry. -/
theorem body_apply (y : Vec Ideal S4096x2048 .f32) (s : Vec Ideal S1x1 .f32) (g : EReal)
    (hs : ∀ j, (s j : EReal) = Ideal.div g (Ideal.ofBits .f32 0x43E00000#32)) (i : S4096x2048.Idx) :
    (out0_2 (F := Ideal) y s i : EReal) = quant g (y i) := by
  unfold out0_2
  rw [canon2_eq, View.ld_unit_lit _ y (by decide), View.ld_unit_lit _ s (by decide)]
  show min (Ideal.ofBits .f32 0x43E00000#32) (max (Ideal.ofBits .f32 0xC3E00000#32) (Ideal.div (y (ix2_0 i)) (s (ix2_1 i)))) * (s (ix2_2 i) : EReal) = _
  rw [hs, show ix2_0 i = i from funext fun b => match b with | ⟨0, _⟩ => rfl | ⟨1, _⟩ => rfl]
  rfl

/-- The output's one block is what the grid's one point wrote: the whole result. -/
theorem out_eq : (dats m 0 (0 : Dev nD)).arrAt 2 cfg0.N = result (lhs m) (rhs m) := by
  have h := (blocks2 m (0 : Dev nD) t0_0 rfl).trans (flushed2 m (0 : Dev nD) t0_0)
  rw [in_prod, in_scale] at h
  funext i
  have hi : (dats m 0 (0 : Dev nD)).arrAt 2 cfg0.N i
      = out0_2 (F := Ideal) (hostProd (F := Ideal) (lhs m) (rhs m)) (hostScale (F := Ideal) (hostProd (F := Ideal) (lhs m) (rhs m))) i := by
    refine Eq.trans ?_ (congrFun h i)
    refine congrArg ((dats m 0 (0 : Dev nD)).arrAt 2 cfg0.N) (funext fun b => Fin.ext ?_)
    exact (win0_2.rect_emb_val_of_index_zero t0_0 b ((by decide : ∀ b : Fin 2, win0_2.index t0_0 b = 0) b) i).symm
  refine hi.trans ((body_apply _ _ _ (hostScale_apply _) i).trans ?_)
  rw [top_eq]
  refine congrArg (quant (top (lhs m) (rhs m))) (Eq.trans ?_ (hostProd_apply (lhs m) (rhs m) _ _))
  exact congrArg (hostProd (F := Ideal) (lhs m) (rhs m)) (ValueIdx.eq_ix2 i)

end Cert.Ref

end
-- ==== Proof.lean ====
/- The five claims put together: the two programs' frames, both from one run of the kernel over any float values; the
   reference's frame; and, over the extended reals, each device's result as its block of rows of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Deal
public import proofs.«01_k».proof.Proof.Rows
public import proofs.«01_k».proof.Proof.Whole
public import Idealize.ShloMosaic.Adequacy
public import Idealize.ShloMosaic.Init

@[expose] public section

noncomputable section

namespace Cert.Proof

open Idealize.ShloMosaic Idealize.SL.Sem Cert.Kernel

/-- Over any float values the program terminates, leaves its arguments as they were and every counter at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨((h.1 c).1 (0 : Fin 2)).trans (Cert.Run.finalA_x m g c), (h.1 c).2⟩, h.2⟩)
    (Cert.Run.run_main m g)

theorem frame_ideal : Cert.quiescent_KernelIdeal := fun m g _ => frame_any m g

/-- The two programs have the same bodies, -/
theorem bodies : Cert.Kernel.defs₀ (F := Bits) = Cert.KernelIdeal.defs₀ (F := Bits) := by
  refine congrArg (Defs.onTc (nD := Cert.KernelIdeal.nD) (τ := Cert.KernelIdeal.τ) (sig := Cert.KernelIdeal.sig) (Λ := Cert.KernelIdeal.Λ₀)) (funext fun l => funext fun a => ?_)
  match l, a with
  | ⟨0, _⟩, (t, s) => rfl
  | ⟨_ + 1, h⟩, _ => exact absurd h (Nat.not_lt.2 (Nat.le_add_left _ _))

/-- so the same tables of bodies, -/
theorem tables : Cert.Kernel.defs (F := Bits) = Cert.KernelIdeal.defs (F := Bits) :=
  congrArg (Pipeline.defs (Cert.KernelIdeal.pcfgs (F := Bits))) bodies

/-- and the run of one is the run of the other. -/
theorem frame_kernel : Cert.quiescent_Kernel := fun m g _ => by
  have h := frame_any (F := Bits) m g
  rw [← tables] at h
  exact h

/-- Over the extended reals each device's result is its block of rows of the reference's, whatever the arguments hold. -/
theorem values : Cert.algebraic_KernelIdeal_ReferenceIdeal := fun m g m' g' _ h => by
  have hX := fun c => (h c).1
  have hW := fun c => (h c).2
  refine ⟨Cert.Sums.result (Cert.Ref.lhs m') (Cert.Ref.rhs m'), ?_, ?_⟩
  · refine (θ_run _ _ _).mono (fun r hr c => ?_) (Cert.Run.run_main (F := Ideal) m g)
    have hc := hr.1 c
    refine ⟨?_, ?_, hc.2⟩
    · refine (hc.1 (1 : Fin 2)).trans ((Cert.Run.finalA_out m g c).trans ?_)
      exact Cert.Run.outAt_result m g (Cert.Ref.lhs m') (Cert.Ref.rhs m') hX hW c
    · exact (hc.1 (0 : Fin 2)).trans (Cert.Run.finalA_x m g c)
  · refine (θ_run _ _ _).mono (fun r hr => ?_) (Cert.ReferenceIdeal.Value.run_blocks (F := Ideal) m' g')
    have hc := hr (0 : Dev 1)
    exact ⟨hc.1.trans (Cert.Ref.out_eq m'), hc.2.1, hc.2.2⟩

/-- Every claim. -/
theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, values⟩

end Cert.Proof

end
